-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.bf16_pair.Statement Cert.KernelIdeal.S256x256 Cert.KernelIdeal.S128x256
  ∧ IdealRules.bf16_pack.Statement Cert.KernelIdeal.S128x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v6_0)) (v4 : (c : Dev Cert.KernelIdeal.nD) → Buf (Elt Ideal) ((c.tc : Thread Cert.KernelIdeal.nD Cert.KernelIdeal.τ).loc Cert.KernelIdeal.main_v6_1)) (v5 : (c : Dev Cert.KernelIdeal.nD) → Buf (Elt Ideal) ((c.tc : Thread Cert.KernelIdeal.nD Cert.KernelIdeal.τ).loc Cert.KernelIdeal.main_v6_2)) (v6 : (c : Dev Cert.KernelIdeal.nD) → Buf (Elt Ideal) ((c.tc : Thread Cert.KernelIdeal.nD Cert.KernelIdeal.τ).loc Cert.KernelIdeal.main_v6_3)) (v7 : (c : Dev Cert.KernelIdeal.nD) → Buf (Elt Ideal) ((c.tc : Thread Cert.KernelIdeal.nD Cert.KernelIdeal.τ).loc Cert.KernelIdeal.main_v6_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v6_0) = v3 c
          ∧ r.2.mem ((c.tc : Thread Cert.KernelIdeal.nD Cert.KernelIdeal.τ).loc Cert.KernelIdeal.main_v6_1) = v4 c
          ∧ r.2.mem ((c.tc : Thread Cert.KernelIdeal.nD Cert.KernelIdeal.τ).loc Cert.KernelIdeal.main_v6_2) = v5 c
          ∧ r.2.mem ((c.tc : Thread Cert.KernelIdeal.nD Cert.KernelIdeal.τ).loc Cert.KernelIdeal.main_v6_3) = v6 c
          ∧ r.2.mem ((c.tc : Thread Cert.KernelIdeal.nD Cert.KernelIdeal.τ).loc Cert.KernelIdeal.main_v6_4) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v116) = v1 c
          ∧ r.2.mem ((c.tc : Thread Cert.ReferenceIdeal.nD Cert.ReferenceIdeal.τ).loc Cert.ReferenceIdeal.main_v103) = v2 c
          ∧ r.2.mem ((c.tc : Thread Cert.ReferenceIdeal.nD Cert.ReferenceIdeal.τ).loc Cert.ReferenceIdeal.main_v62) = v3 c
          ∧ r.2.mem ((c.tc : Thread Cert.ReferenceIdeal.nD Cert.ReferenceIdeal.τ).loc Cert.ReferenceIdeal.main_v78) = v4 c
          ∧ r.2.mem ((c.tc : Thread Cert.ReferenceIdeal.nD Cert.ReferenceIdeal.τ).loc Cert.ReferenceIdeal.main_v70) = v5 c
          ∧ r.2.mem ((c.tc : Thread Cert.ReferenceIdeal.nD Cert.ReferenceIdeal.τ).loc Cert.ReferenceIdeal.main_v94) = v6 c
          ∧ r.2.mem ((c.tc : Thread Cert.ReferenceIdeal.nD Cert.ReferenceIdeal.τ).loc Cert.ReferenceIdeal.main_v86) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1024x2048 : Shape := ⟨3, ![16, 1024, 2048]⟩
abbrev S16x1024x5632 : Shape := ⟨3, ![16, 1024, 5632]⟩
abbrev S256x2816 : Shape := ⟨2, ![256, 2816]⟩
abbrev S256x22 : Shape := ⟨2, ![256, 22]⟩
abbrev S256x2048 : Shape := ⟨2, ![256, 2048]⟩
abbrev S256x16 : Shape := ⟨2, ![256, 16]⟩
abbrev S5632x2048 : Shape := ⟨2, ![5632, 2048]⟩
abbrev S5632 : Shape := ⟨1, ![5632]⟩
abbrev S16384x2048 : Shape := ⟨2, ![16384, 2048]⟩
abbrev S16384x5632 : Shape := ⟨2, ![16384, 5632]⟩
abbrev S22x256 : Shape := ⟨2, ![22, 256]⟩
abbrev S22x1x256 : Shape := ⟨3, ![22, 1, 256]⟩
abbrev S5632x256 : Shape := ⟨2, ![5632, 256]⟩
abbrev S256x128 : Shape := ⟨2, ![256, 128]⟩
abbrev S1x1x256 : Shape := ⟨3, ![1, 1, 256]⟩
abbrev S256x256 : Shape := ⟨2, ![256, 256]⟩
abbrev S128x256 : Shape := ⟨2, ![128, 256]⟩
abbrev S1x256 : Shape := ⟨2, ![1, 256]⟩
abbrev S2048x256 : Shape := ⟨2, ![2048, 256]⟩
abbrev S1024x512 : Shape := ⟨2, ![1024, 512]⟩
abbrev S1024x5632 : Shape := ⟨2, ![1024, 5632]⟩
abbrev S512x256 : Shape := ⟨2, ![512, 256]⟩
abbrev S512x5632 : Shape := ⟨2, ![512, 5632]⟩
abbrev S256x1 : Shape := ⟨2, ![256, 1]⟩
abbrev S256 : Shape := ⟨1, ![256]⟩
abbrev S5632x1 : Shape := ⟨2, ![5632, 1]⟩

abbrev nBuf : Space → Nat
  | .hbm => 27
  | .vmem => 39
  | .smem => 0
  | _ => 0

abbrev bufTy : (tb : Table) → Fin (tcTables nBuf tb) → BufTy
  | .hbm, ⟨0, _⟩ => ⟨S16x1024x2048, .bf16⟩
  | .hbm, ⟨1, _⟩ => ⟨S16x1024x5632, .bf16⟩
  | .hbm, ⟨2, _⟩ => ⟨S256x2816, .i8⟩
  | .hbm, ⟨3, _⟩ => ⟨S256x22, .f32⟩
  | .hbm, ⟨4, _⟩ => ⟨S256x2048, .i8⟩
  | .hbm, ⟨5, _⟩ => ⟨S256x16, .f32⟩
  | .hbm, ⟨6, _⟩ => ⟨S256x2048, .i8⟩
  | .hbm, ⟨7, _⟩ => ⟨S256x16, .f32⟩
  | .hbm, ⟨8, _⟩ => ⟨S5632x2048, .i8⟩
  | .hbm, ⟨9, _⟩ => ⟨S5632, .f32⟩
  | .hbm, ⟨10, _⟩ => ⟨S5632x2048, .i8⟩
  | .hbm, ⟨11, _⟩ => ⟨S16384x2048, .bf16⟩
  | .hbm, ⟨12, _⟩ => ⟨S16384x5632, .bf16⟩
  | .hbm, ⟨13, _⟩ => ⟨S22x256, .f32⟩
  | .hbm, ⟨14, _⟩ => ⟨S22x1x256, .f32⟩
  | .hbm, ⟨15, _⟩ => ⟨S5632x256, .bf16⟩
  | .hbm, ⟨16, _⟩ => ⟨S2048x256, .f32⟩
  | .hbm, ⟨17, _⟩ => ⟨S256x2048, .f32⟩
  | .hbm, ⟨18, _⟩ => ⟨S256x2048, .i8⟩
  | .hbm, ⟨19, _⟩ => ⟨S256x16, .f32⟩
  | .hbm, ⟨20, _⟩ => ⟨S256x2048, .i8⟩
  | .hbm, ⟨21, _⟩ => ⟨S256x16, .f32⟩
  | .hbm, ⟨22, _⟩ => ⟨S5632x1, .f32⟩
  | .hbm, ⟨23, _⟩ => ⟨S5632x2048, .i8⟩
  | .hbm, ⟨24, _⟩ => ⟨S5632x1, .f32⟩
  | .hbm, ⟨25, _⟩ => ⟨S5632x2048, .f32⟩
  | .hbm, ⟨26, _⟩ => ⟨S5632, .f32⟩
  | .local _ .vmem, ⟨0, _⟩ => ⟨S256x128, .i8⟩
  | .local _ .vmem, ⟨1, _⟩ => ⟨S256x128, .i8⟩
  | .local _ .vmem, ⟨2, _⟩ => ⟨S1x1x256, .f32⟩
  | .local _ .vmem, ⟨3, _⟩ => ⟨S1x1x256, .f32⟩
  | .local _ .vmem, ⟨4, _⟩ => ⟨S256x256, .bf16⟩
  | .local _ .vmem, ⟨5, _⟩ => ⟨S256x256, .bf16⟩
  | .local _ .vmem, ⟨6, _⟩ => ⟨S1024x512, .bf16⟩
  | .local _ .vmem, ⟨7, _⟩ => ⟨S1024x512, .bf16⟩
  | .local _ .vmem, ⟨8, _⟩ => ⟨S1024x5632, .bf16⟩
  | .local _ .vmem, ⟨9, _⟩ => ⟨S1024x5632, .bf16⟩
  | .local _ .vmem, ⟨10, _⟩ => ⟨S5632x256, .bf16⟩
  | .local _ .vmem, ⟨11, _⟩ => ⟨S512x256, .f32⟩
  | .local _ .vmem, ⟨12, _⟩ => ⟨S512x256, .f32⟩
  | .local _ .vmem, ⟨13, _⟩ => ⟨S512x5632, .f32⟩
  | .local _ .vmem, ⟨14, _⟩ => ⟨S2048x256, .f32⟩
  | .local _ .vmem, ⟨15, _⟩ => ⟨S256x2048, .i8⟩
  | .local _ .vmem, ⟨16, _⟩ => ⟨S256x16, .f32⟩
  | .local _ .vmem, ⟨17, _⟩ => ⟨S256x2048, .i8⟩
  | .local _ .vmem, ⟨18, _⟩ => ⟨S256x16, .f32⟩
  | .local _ .vmem, ⟨19, _⟩ => ⟨S256x2048, .f32⟩
  | .local _ .vmem, ⟨20, _⟩ => ⟨S256x2048, .i8⟩
  | .local _ .vmem, ⟨21, _⟩ => ⟨S256x16, .f32⟩
  | .local _ .vmem, ⟨22, _⟩ => ⟨S256x2048, .i8⟩
  | .local _ .vmem, ⟨23, _⟩ => ⟨S256x16, .f32⟩
  | .local _ .vmem, ⟨24, _⟩ => ⟨S256x256, .bf16⟩
  | .local _ .vmem, ⟨25, _⟩ => ⟨S256x256, .bf16⟩
  | .local _ .vmem, ⟨26, _⟩ => ⟨S256x2048, .f32⟩
  | .local _ .vmem, ⟨27, _⟩ => ⟨S256x2048, .i8⟩
  | .local _ .vmem, ⟨28, _⟩ => ⟨S256x2048, .i8⟩
  | .local _ .vmem, ⟨29, _⟩ => ⟨S256x1, .f32⟩
  | .local _ .vmem, ⟨30, _⟩ => ⟨S256x1, .f32⟩
  | .local _ .vmem, ⟨31, _⟩ => ⟨S256x2048, .i8⟩
  | .local _ .vmem, ⟨32, _⟩ => ⟨S256x2048, .i8⟩
  | .local _ .vmem, ⟨33, _⟩ => ⟨S256x2048, .i8⟩
  | .local _ .vmem, ⟨34, _⟩ => ⟨S256x2048, .i8⟩
  | .local _ .vmem, ⟨35, _⟩ => ⟨S256x1, .f32⟩
  | .local _ .vmem, ⟨36, _⟩ => ⟨S256x1, .f32⟩
  | .local _ .vmem, ⟨37, _⟩ => ⟨S256x2048, .f32⟩
  | .local _ .vmem, ⟨38, _⟩ => ⟨S256x2048, .f32⟩
  | _, _ => ⟨S16x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev main_v6_4 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev main_v8_2 : Ref sig .tc := ⟨.hbm, 25, rfl⟩
abbrev main_v9 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc2_stg8_0 : Ref sig .tc := ⟨.vmem, 22, rfl⟩
abbrev cc2_stg9_0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc3_stg4_0 : Ref sig .tc := ⟨.vmem, 31, rfl⟩
abbrev cc3_stg4_1 : Ref sig .tc := ⟨.vmem, 32, rfl⟩
abbrev cc3_stg5_0 : Ref sig .tc := ⟨.vmem, 33, rfl⟩
abbrev cc3_stg5_1 : Ref sig .tc := ⟨.vmem, 34, rfl⟩
abbrev cc3_stg6_0 : Ref sig .tc := ⟨.vmem, 35, rfl⟩
abbrev cc3_stg6_1 : Ref sig .tc := ⟨.vmem, 36, rfl⟩
abbrev cc3_stg7_0 : Ref sig .tc := ⟨.vmem, 37, rfl⟩
abbrev cc3_stg7_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem8_0 : DmaSem sig := 21
abbrev cc2_sem9_0 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc3_sem3_0 : DmaSem sig := 28
abbrev cc3_sem3_1 : DmaSem sig := 29
abbrev cc3_sem4_0 : DmaSem sig := 30
abbrev cc3_sem4_1 : DmaSem sig := 31
abbrev cc3_sem5_0 : DmaSem sig := 32
abbrev cc3_sem5_1 : DmaSem sig := 33
abbrev cc3_sem6_0 : DmaSem sig := 34
abbrev cc3_sem6_1 : DmaSem sig := 35
abbrev cc3_sem7_0 : DmaSem sig := 36
abbrev cc3_sem7_1 : DmaSem sig := 37

abbrev nD : Nat := 1
abbrev τ : Topo := Topo.v7x

variable {F : FTy → Type} [BitOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 16], ![false, false]⟩

def k1_cond2 (i : grid1.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x5632 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S5632x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := .none

abbrev stage2_0 : Fin 1 → Memref sig .tc .vmem S2048x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S256x2048 .i8 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S256x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S256x2048 .i8 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S256x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S256x2048 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S256x2048 .i8 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S256x16 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S256x2048 .i8 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S256x16 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev grid3 : Pipeline.Grid := ⟨1, ![22], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x2048 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x2048 .i8 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x2048 .i8 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S256x2048 .i8 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S256x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S256x2048 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== KernelIdeal.lean ====
variable {F : FTy → Type} [FloatOps F]
-- ==== ReferenceIdeal.lean ====
abbrev S16x1024x2048 : Shape := ⟨3, ![16, 1024, 2048]⟩
abbrev S16x1024x5632 : Shape := ⟨3, ![16, 1024, 5632]⟩
abbrev S256x2816 : Shape := ⟨2, ![256, 2816]⟩
abbrev S256x22 : Shape := ⟨2, ![256, 22]⟩
abbrev S256x2048 : Shape := ⟨2, ![256, 2048]⟩
abbrev S256x16 : Shape := ⟨2, ![256, 16]⟩
abbrev S5632x2048 : Shape := ⟨2, ![5632, 2048]⟩
abbrev S5632 : Shape := ⟨1, ![5632]⟩
abbrev S2816x2x2048 : Shape := ⟨3, ![2816, 2, 2048]⟩
abbrev S2816x1x2048 : Shape := ⟨3, ![2816, 1, 2048]⟩
abbrev S2816x2048 : Shape := ⟨2, ![2816, 2048]⟩
abbrev S256x22x128 : Shape := ⟨3, ![256, 22, 128]⟩
abbrev S_ : Shape := ⟨0, ![]⟩
abbrev S256x16x128 : Shape := ⟨3, ![256, 16, 128]⟩
abbrev S256x16x1 : Shape := ⟨3, ![256, 16, 1]⟩
abbrev S5632x1 : Shape := ⟨2, ![5632, 1]⟩

abbrev nBuf : Space → Nat
  | .hbm => 194
  | .vmem => 0
  | .smem => 0
  | _ => 0

abbrev hbmTy0_0 (i : Nat) : BufTy := match i % 128 with
  | 0 => ⟨S16x1024x2048, .bf16⟩
  | 1 => ⟨S16x1024x5632, .bf16⟩
  | 2 => ⟨S256x2816, .i8⟩
  | 3 => ⟨S256x22, .f32⟩
  | 4 => ⟨S256x2048, .i8⟩
  | 5 => ⟨S256x16, .f32⟩
  | 6 => ⟨S256x2048, .i8⟩
  | 7 => ⟨S256x16, .f32⟩
  | 8 => ⟨S5632x2048, .i8⟩
  | 9 => ⟨S5632, .f32⟩
  | 10 => ⟨S5632x2048, .i8⟩
  | 11 => ⟨S5632x2048, .f32⟩
  | 12 => ⟨S5632x2048, .bf16⟩
  | 13 => ⟨S2816x2x2048, .bf16⟩
  | 14 => ⟨S2816x1x2048, .bf16⟩
  | 15 => ⟨S2816x2048, .bf16⟩
  | 16 => ⟨S2816x1x2048, .bf16⟩
  | 17 => ⟨S2816x2048, .bf16⟩
  | 18 => ⟨S256x22x128, .f32⟩
  | 19 => ⟨S256x2816, .f32⟩
  | 20 => ⟨S256x2816, .bf16⟩
  | 21 => ⟨S256x2816, .i32⟩
  | 22 => ⟨S_, .i32⟩
  | 23 => ⟨S256x2816, .i32⟩
  | 24 => ⟨S256x2816, .i32⟩
  | 25 => ⟨S_, .i32⟩
  | 26 => ⟨S256x2816, .i32⟩
  | 27 => ⟨S256x2816, .i1⟩
  | 28 => ⟨S_, .i32⟩
  | 29 => ⟨S256x2816, .i32⟩
  | 30 => ⟨S256x2816, .i32⟩
  | 31 => ⟨S256x2816, .i32⟩
  | 32 => ⟨S256x2816, .f32⟩
  | 33 => ⟨S256x2816, .bf16⟩
  | 34 => ⟨S256x2816, .bf16⟩
  | 35 => ⟨S_, .i32⟩
  | 36 => ⟨S256x2816, .i32⟩
  | 37 => ⟨S256x2816, .i32⟩
  | 38 => ⟨S_, .i32⟩
  | 39 => ⟨S256x2816, .i32⟩
  | 40 => ⟨S256x2816, .i1⟩
  | 41 => ⟨S_, .i32⟩
  | 42 => ⟨S256x2816, .i32⟩
  | 43 => ⟨S256x2816, .i32⟩
  | 44 => ⟨S256x2816, .i32⟩
  | 45 => ⟨S256x2816, .f32⟩
  | 46 => ⟨S256x2816, .bf16⟩
  | 47 => ⟨S256x2816, .bf16⟩
  | 48 => ⟨S256x2048, .f32⟩
  | 49 => ⟨S256x2048, .f32⟩
  | 50 => ⟨S256x2048, .f32⟩
  | 51 => ⟨S256x2048, .i32⟩
  | 52 => ⟨S256x2048, .f32⟩
  | 53 => ⟨S256x16x128, .f32⟩
  | 54 => ⟨S256x2048, .f32⟩
  | 55 => ⟨S256x2048, .f32⟩
  | 56 => ⟨S256x2048, .i32⟩
  | 57 => ⟨S256x2048, .f32⟩
  | 58 => ⟨S256x16x128, .f32⟩
  | 59 => ⟨S256x2048, .f32⟩
  | 60 => ⟨S256x2048, .f32⟩
  | 61 => ⟨S_, .f32⟩
  | 62 => ⟨S256x2048, .f32⟩
  | 63 => ⟨S256x2048, .f32⟩
  | 64 => ⟨S_, .f32⟩
  | 65 => ⟨S256x2048, .f32⟩
  | 66 => ⟨S256x2048, .f32⟩
  | 67 => ⟨S256x2048, .f32⟩
  | 68 => ⟨S_, .f32⟩
  | 69 => ⟨S256x2048, .f32⟩
  | 70 => ⟨S256x2048, .f32⟩
  | 71 => ⟨S_, .f32⟩
  | 72 => ⟨S256x2048, .f32⟩
  | 73 => ⟨S256x2048, .f32⟩
  | 74 => ⟨S256x2048, .f32⟩
  | 75 => ⟨S256x2048, .f32⟩
  | 76 => ⟨S_, .f32⟩
  | 77 => ⟨S256x2048, .f32⟩
  | 78 => ⟨S256x2048, .f32⟩
  | 79 => ⟨S_, .f32⟩
  | 80 => ⟨S256x2048, .f32⟩
  | 81 => ⟨S256x2048, .f32⟩
  | 82 => ⟨S256x2048, .f32⟩
  | 83 => ⟨S_, .f32⟩
  | 84 => ⟨S256x2048, .f32⟩
  | 85 => ⟨S256x2048, .f32⟩
  | 86 => ⟨S256x2048, .f32⟩
  | 87 => ⟨S256x16x128, .f32⟩
  | 88 => ⟨S256x16x128, .f32⟩
  | 89 => ⟨S_, .f32⟩
  | 90 => ⟨S256x16, .f32⟩
  | 91 => ⟨S_, .f32⟩
  | 92 => ⟨S256x16, .f32⟩
  | 93 => ⟨S256x16, .i1⟩
  | 94 => ⟨S_, .f32⟩
  | 95 => ⟨S256x16, .f32⟩
  | 96 => ⟨S256x16, .f32⟩
  | 97 => ⟨S_, .f32⟩
  | 98 => ⟨S_, .f32⟩
  | 99 => ⟨S256x16, .f32⟩
  | 100 => ⟨S256x16, .f32⟩
  | 101 => ⟨S256x16x1, .f32⟩
  | 102 => ⟨S256x16x128, .f32⟩
  | 103 => ⟨S256x16x128, .f32⟩
  | 104 => ⟨S256x16x128, .f32⟩
  | 105 => ⟨S_, .f32⟩
  | 106 => ⟨S_, .f32⟩
  | 107 => ⟨S_, .f32⟩
  | 108 => ⟨S256x16x128, .f32⟩
  | 109 => ⟨S256x16x128, .f32⟩
  | 110 => ⟨S_, .f32⟩
  | 111 => ⟨S256x16x128, .f32⟩
  | 112 => ⟨S256x16x128, .f32⟩
  | 113 => ⟨S256x16x128, .i32⟩
  | 114 => ⟨S256x16x128, .i8⟩
  | 115 => ⟨S256x2048, .i8⟩
  | 116 => ⟨S256x16x128, .f32⟩
  | 117 => ⟨S256x16x128, .f32⟩
  | 118 => ⟨S_, .f32⟩
  | 119 => ⟨S256x16, .f32⟩
  | 120 => ⟨S_, .f32⟩
  | 121 => ⟨S256x16, .f32⟩
  | 122 => ⟨S256x16, .i1⟩
  | 123 => ⟨S_, .f32⟩
  | 124 => ⟨S256x16, .f32⟩
  | 125 => ⟨S256x16, .f32⟩
  | 126 => ⟨S_, .f32⟩
  | 127 => ⟨S_, .f32⟩
  | _ => ⟨S16x1024x2048, .bf16⟩

abbrev hbmTy0_1 (i : Nat) : BufTy := match i % 128 with
  | 0 => ⟨S256x16, .f32⟩
  | 1 => ⟨S256x16, .f32⟩
  | 2 => ⟨S256x16x1, .f32⟩
  | 3 => ⟨S256x16x128, .f32⟩
  | 4 => ⟨S256x16x128, .f32⟩
  | 5 => ⟨S256x16x128, .f32⟩
  | 6 => ⟨S_, .f32⟩
  | 7 => ⟨S_, .f32⟩
  | 8 => ⟨S_, .f32⟩
  | 9 => ⟨S256x16x128, .f32⟩
  | 10 => ⟨S256x16x128, .f32⟩
  | 11 => ⟨S_, .f32⟩
  | 12 => ⟨S256x16x128, .f32⟩
  | 13 => ⟨S256x16x128, .f32⟩
  | 14 => ⟨S256x16x128, .i32⟩
  | 15 => ⟨S256x16x128, .i8⟩
  | 16 => ⟨S256x2048, .i8⟩
  | 17 => ⟨S256x2048, .bf16⟩
  | 18 => ⟨S2816x2048, .f32⟩
  | 19 => ⟨S2816x2048, .f32⟩
  | 20 => ⟨S2816x1x2048, .f32⟩
  | 21 => ⟨S2816x1x2048, .f32⟩
  | 22 => ⟨S2816x2x2048, .f32⟩
  | 23 => ⟨S5632x2048, .f32⟩
  | 24 => ⟨S_, .f32⟩
  | 25 => ⟨S5632x2048, .f32⟩
  | 26 => ⟨S5632x2048, .f32⟩
  | 27 => ⟨S5632x2048, .i32⟩
  | 28 => ⟨S5632x2048, .f32⟩
  | 29 => ⟨S5632x1, .f32⟩
  | 30 => ⟨S5632x2048, .f32⟩
  | 31 => ⟨S5632x2048, .f32⟩
  | 32 => ⟨S5632x2048, .f32⟩
  | 33 => ⟨S5632x2048, .f32⟩
  | 34 => ⟨S_, .f32⟩
  | 35 => ⟨S5632, .f32⟩
  | 36 => ⟨S_, .f32⟩
  | 37 => ⟨S5632, .f32⟩
  | 38 => ⟨S5632, .i1⟩
  | 39 => ⟨S_, .f32⟩
  | 40 => ⟨S5632, .f32⟩
  | 41 => ⟨S5632, .f32⟩
  | 42 => ⟨S_, .f32⟩
  | 43 => ⟨S_, .f32⟩
  | 44 => ⟨S5632, .f32⟩
  | 45 => ⟨S5632, .f32⟩
  | 46 => ⟨S5632x2048, .i32⟩
  | 47 => ⟨S5632x2048, .f32⟩
  | 48 => ⟨S_, .f32⟩
  | 49 => ⟨S5632x2048, .f32⟩
  | 50 => ⟨S5632x2048, .f32⟩
  | 51 => ⟨S5632x1, .f32⟩
  | 52 => ⟨S5632x2048, .f32⟩
  | 53 => ⟨S5632x2048, .f32⟩
  | 54 => ⟨S5632x2048, .f32⟩
  | 55 => ⟨S5632x2048, .f32⟩
  | 56 => ⟨S_, .f32⟩
  | 57 => ⟨S_, .f32⟩
  | 58 => ⟨S_, .f32⟩
  | 59 => ⟨S5632x2048, .f32⟩
  | 60 => ⟨S5632x2048, .f32⟩
  | 61 => ⟨S_, .f32⟩
  | 62 => ⟨S5632x2048, .f32⟩
  | 63 => ⟨S5632x2048, .f32⟩
  | 64 => ⟨S5632x2048, .i32⟩
  | 65 => ⟨S5632x2048, .i8⟩
  | _ => ⟨S16x1024x2048, .bf16⟩

abbrev hbmTy (i : Nat) : BufTy := match i / 128 with
  | 0 => hbmTy0_0 i
  | 1 => hbmTy0_1 i
  | _ => ⟨S16x1024x2048, .bf16⟩

abbrev bufTy : (tb : Table) → Fin (tcTables nBuf tb) → BufTy
  | .hbm, ⟨i, _⟩ => hbmTy i
  | _, _ => ⟨S16x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_0 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_c_3 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst : Ref sig .tc := ⟨.hbm, 61, rfl⟩
abbrev main_v44 : Ref sig .tc := ⟨.hbm, 62, rfl⟩
abbrev main_v45 : Ref sig .tc := ⟨.hbm, 63, rfl⟩
abbrev main_cst_5 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_6 : Ref sig .tc := ⟨.hbm, 68, rfl⟩
abbrev main_v49 : Ref sig .tc := ⟨.hbm, 69, rfl⟩
abbrev main_v50 : Ref sig .tc := ⟨.hbm, 70, rfl⟩
abbrev main_cst_7 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_8 : Ref sig .tc := ⟨.hbm, 76, rfl⟩
abbrev main_v55 : Ref sig .tc := ⟨.hbm, 77, rfl⟩
abbrev main_v56 : Ref sig .tc := ⟨.hbm, 78, rfl⟩
abbrev main_cst_9 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_10 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_11 : Ref sig .tc := ⟨.hbm, 89, rfl⟩
abbrev main_v65 : Ref sig .tc := ⟨.hbm, 90, rfl⟩
abbrev main_cst_12 : Ref sig .tc := ⟨.hbm, 91, rfl⟩
abbrev main_v66 : Ref sig .tc := ⟨.hbm, 92, rfl⟩
abbrev main_v67 : Ref sig .tc := ⟨.hbm, 93, rfl⟩
abbrev main_cst_13 : Ref sig .tc := ⟨.hbm, 94, rfl⟩
abbrev main_v68 : Ref sig .tc := ⟨.hbm, 95, rfl⟩
abbrev main_v69 : Ref sig .tc := ⟨.hbm, 96, rfl⟩
abbrev main_cst_14 : Ref sig .tc := ⟨.hbm, 97, rfl⟩
abbrev main_call2_v0 : Ref sig .tc := ⟨.hbm, 98, rfl⟩
abbrev main_call2_v1 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_15 : Ref sig .tc := ⟨.hbm, 105, rfl⟩
abbrev main_cst_16 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_call4_v3 : Ref sig .tc := ⟨.hbm, 110, rfl⟩
abbrev main_call4_v4 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_17 : Ref sig .tc := ⟨.hbm, 118, rfl⟩
abbrev main_v81 : Ref sig .tc := ⟨.hbm, 119, rfl⟩
abbrev main_cst_18 : Ref sig .tc := ⟨.hbm, 120, rfl⟩
abbrev main_v82 : Ref sig .tc := ⟨.hbm, 121, rfl⟩
abbrev main_v83 : Ref sig .tc := ⟨.hbm, 122, rfl⟩
abbrev main_cst_19 : Ref sig .tc := ⟨.hbm, 123, rfl⟩
abbrev main_v84 : Ref sig .tc := ⟨.hbm, 124, rfl⟩
abbrev main_v85 : Ref sig .tc := ⟨.hbm, 125, rfl⟩
abbrev main_cst_20 : Ref sig .tc := ⟨.hbm, 126, rfl⟩
abbrev main_call5_v0 : Ref sig .tc := ⟨.hbm, 127, rfl⟩
abbrev main_call5_v1 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_cst_21 : Ref sig .tc := ⟨.hbm, 134, rfl⟩
abbrev main_cst_22 : Ref sig .tc := ⟨.hbm, 135, rfl⟩
abbrev main_call7_v0 : Ref sig .tc := ⟨.hbm, 136, rfl⟩
abbrev main_call7_v1 : Ref sig .tc := ⟨.hbm, 137, rfl⟩
abbrev main_call7_v2 : Ref sig .tc := ⟨.hbm, 138, rfl⟩
abbrev main_call7_v3 : Ref sig .tc := ⟨.hbm, 139, rfl⟩
abbrev main_call7_v4 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_cst_23 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_cst_24 : Ref sig .tc := ⟨.hbm, 162, rfl⟩
abbrev main_v111 : Ref sig .tc := ⟨.hbm, 163, rfl⟩
abbrev main_cst_25 : Ref sig .tc := ⟨.hbm, 164, rfl⟩
abbrev main_v112 : Ref sig .tc := ⟨.hbm, 165, rfl⟩
abbrev main_v113 : Ref sig .tc := ⟨.hbm, 166, rfl⟩
abbrev main_cst_26 : Ref sig .tc := ⟨.hbm, 167, rfl⟩
abbrev main_v114 : Ref sig .tc := ⟨.hbm, 168, rfl⟩
abbrev main_v115 : Ref sig .tc := ⟨.hbm, 169, rfl⟩
abbrev main_cst_27 : Ref sig .tc := ⟨.hbm, 170, rfl⟩
abbrev main_call8_v0 : Ref sig .tc := ⟨.hbm, 171, rfl⟩
abbrev main_call8_v1 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_cst_28 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_cst_29 : Ref sig .tc := ⟨.hbm, 184, rfl⟩
abbrev main_cst_30 : Ref sig .tc := ⟨.hbm, 185, rfl⟩
abbrev main_call9_v0 : Ref sig .tc := ⟨.hbm, 186, rfl⟩
abbrev main_call9_v1 : Ref sig .tc := ⟨.hbm, 187, rfl⟩
abbrev main_call9_v2 : Ref sig .tc := ⟨.hbm, 188, rfl⟩
abbrev main_call9_v3 : Ref sig .tc := ⟨.hbm, 189, rfl⟩
abbrev main_call9_v4 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩

abbrev nD : Nat := 1
abbrev τ : Topo := Topo.v7x

variable {F : FTy → Type} [FloatOps F]
-- ==== Proof.K.Region0.lean ====
/- The decode call as one region: what its body leaves, the proof data of its pipeline and the body obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_decode` (pipeline 0), at the entry contents `V` -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x128 := Rect.unit (s := S256x128) ![0, 0] S256x128.size inb_S256x128_S256x128_0_0
abbrev r0_1 : Rect S1x1x256 := Rect.unit (s := S1x1x256) ![0, 0, 0] S1x1x256.size inb_S1x1x256_S1x1x256_0_0_0
abbrev r0_2 : Rect S256x256 := Rect.unit (s := S256x256) ![0, 0] S256x256.size inb_S256x256_S256x256_0_0

/-! ## What the body leaves in each output window's buffer -/

/-- Window 2's staging buffer after the body, from the input windows' blocks: its 1 store as pieces, LAST
    FIRST (Lib/Pipeline/FrameBody.lean `View.canon`; the payloads are the skeleton's). -/
def out0_2 (x0 : Vec F S256x128 .i8) (x1 : Vec F S1x1x256 .f32) : Vec F S256x256 .bf16 :=
  View.canon [⟨r0_2, k0_pay1 (View.ld x0 r0_0) (View.ld x1 r0_1)⟩]

/-- Its stores tile the buffer (checked by evaluation), so they cover it. -/
theorem cover0_2 (p0 : Vec F S256x256 .bf16) (y : S256x256.Idx) :
    ∃ pc ∈ ([⟨r0_2, p0⟩] : List (View.Piece (Elt F) S256x256 .bf16)), y ∈ pc.1.set :=
  View.cover_of_tiled [⟨r0_2, p0⟩] S256x256.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x128 .i8) (harg1 : arg1.IsWhole) (arg2 : Memref sig .tc .vmem S1x1x256 .f32) (harg2 : arg2.IsWhole) (arg3 : Memref sig .tc .vmem S256x256 .bf16) (harg3 : arg3.IsWhole)
    (x0 : Vec F S256x128 .i8) (x1 : Vec F S1x1x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_decode i arg1 harg1 arg2 harg2 arg3 harg3) K := by
  simp only [cc0_decode_eq_skeleton]; unfold cc0_decode_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
/-- What window 1 of the decode call holds after a grid point. -/
theorem after0_1 (c : Dev nD) (t : Fin cfg0.N) : (dat0 V c).after 1 t = iblk0 V c 1 t := by dsimp only [dat0]
/-- What window 2 of the decode call holds after a grid point. -/
theorem after0_2 (c : Dev nD) (t : Fin cfg0.N) : (dat0 V c).after 2 t = out0_2 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
/-- Window 1 of the decode call holds its block before a grid point. -/
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.Kernel.Run

end
-- ==== Proof.K.Region1.lean ====
/- The projection call as one region: the accumulator its body carries from step to step, the proof data of its pipeline
   and the body obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.ValueKit.Acc

@[expose] public section

-- membership in a rectangle of production extents (`View.cover_of_tiled`): the elaborator's structural look
-- recurses once per coordinate of the long axes
set_option maxRecDepth 16384

noncomputable section

namespace Cert.Kernel.Run

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # The projection call at the entry contents `V` -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 16). -/
theorem hcond1_0 : ∀ t : Fin cfg1.N, cond1_0 (grid1.coords t) ↔ t.val % 16 = 0 :=
  (fun t => by
    have ht : t.val < 64 := Nat.lt_of_lt_of_eq t.isLt N_1
    have e0 : (grid1.coords t 0).val = t.val / 16 % 4 := Pipeline.Grid.coords_val t 0 (by decide) rfl
    have e1 : (grid1.coords t 1).val = t.val / 1 % 16 := Pipeline.Grid.coords_val t 1 (by decide) rfl
    simp only [cond1_0, e0, e1]
    word_cmp
   : ∀ t : Fin grid1.N, cond1_0 (grid1.coords t) ↔ t.val % 16 = 0)

/-- The condition of the body's `scf.if` 1 (`k1_h2`), from the grid coordinates (the skeleton's scalar
    chain substituted). -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (fun t => by
    have ht : t.val < 64 := Nat.lt_of_lt_of_eq t.isLt N_1
    have e0 : (grid1.coords t 0).val = t.val / 16 % 4 := Pipeline.Grid.coords_val t 0 (by decide) rfl
    have e1 : (grid1.coords t 1).val = t.val / 1 % 16 := Pipeline.Grid.coords_val t 1 (by decide) rfl
    simp only [cond1_1, k1_cond2, e0, e1]
    word_cmp
   : ∀ t : Fin grid1.N, cond1_1 (grid1.coords t) ↔ t.val % 16 = 15)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- At the points of case A the printed configuration (`Cfg.idle`) calls output 3 idle: the case stores nothing into it. -/
theorem idleAt1_3_A : ∀ t : Fin cfg1.N, cond1_0 (grid1.coords t) → ¬cond1_1 (grid1.coords t) → cfg1.idle 3 (grid1.coords t) = true := by decide +kernel
/-- At the points of case A the pipeline does not write output 3's block back. -/
theorem noFlush1_3_A : ∀ t : Fin cfg1.N, cond1_0 (grid1.coords t) → ¬cond1_1 (grid1.coords t) → (cfg1.win 3).flush t = false := by decide +kernel
/-- At the points of case B the printed configuration (`Cfg.idle`) calls output 3 idle: the case stores nothing into it. -/
theorem idleAt1_3_B : ∀ t : Fin cfg1.N, ¬cond1_0 (grid1.coords t) → ¬cond1_1 (grid1.coords t) → cfg1.idle 3 (grid1.coords t) = true := by decide +kernel
/-- At the points of case B the pipeline does not write output 3's block back. -/
theorem noFlush1_3_B : ∀ t : Fin cfg1.N, ¬cond1_0 (grid1.coords t) → ¬cond1_1 (grid1.coords t) → (cfg1.win 3).flush t = false := by decide +kernel
/-- At the points of case C the printed configuration (`Cfg.idle`) calls output 3 live: the case stores into it. -/
theorem liveAt1_3_C : ∀ t : Fin cfg1.N, ¬cond1_0 (grid1.coords t) → cond1_1 (grid1.coords t) → cfg1.idle 3 (grid1.coords t) = false := by decide +kernel

/-- The scratch operand, a whole scoped buffer of the kernel's own. -/
abbrev scM1_0 : Memref sig .tc .vmem S512x5632 .f32 := Memref.whole cc1_scratch0

/-- The region's invariant with the accumulator owned at some contents and every other scoped buffer left unopened. -/
theorem PhiA1_eq (c : Dev nD) :
    (Pipeline.ΦA spec1 c : sProp 𝕄)
      = iprop(iprop((∃ d, owns (c : Thread nD τ) scM1_0 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

/-! ## The body in its three cases: the first, a middle and the last step over the tokens -/

set_option maxHeartbeats 1000000 in
/-- At a first step over the tokens the body leaves the product of its blocks, added to zeros, in the accumulator and
    does not touch the output. -/
theorem sound1_first (c : Dev nD) (i : grid1.Coords) (arg2 : Memref sig .tc .vmem S1024x512 .bf16) (harg2 : arg2.IsWhole) (arg3 : Memref sig .tc .vmem S1024x5632 .bf16) (harg3 : arg3.IsWhole) (arg4 : Memref sig .tc .vmem S5632x256 .bf16) (harg4 : arg4.IsWhole) (arg5 : Memref sig .tc .vmem S512x256 .f32) (harg5 : arg5.IsWhole) (arg6 : Memref sig .tc .vmem S512x5632 .f32) (harg6 : arg6.IsWhole) (hc0 : cond1_0 i) (hc1 : ¬cond1_1 i)
    (x0 : Vec F S1024x512 .bf16) (x1 : Vec F S1024x5632 .bf16) (x2 : Vec F S5632x256 .bf16) (xi3 : Vec F S512x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k1_pay2 (k1_pay1 (F := F)) x0 x1)) -∗ K ⟨⟩))
      ⊢ wp frame (wpE (defs₀ (F := F)) Variants.none c none) E (cc1_project i arg2 harg2 arg3 harg3 arg4 harg4 arg5 harg5 arg6 harg6) K := by
  simp only [cc1_project_eq_skeleton]; unfold cc1_project_skel
  unfold owns
  iintro ⟨⟨%f0, %hf0, H0⟩, ⟨%f1, %hf1, H1⟩, ⟨%f2, %hf2, H2⟩, ⟨%f3, %hf3, H3⟩, ⟨%ds0, %fs0, -, HS0⟩, Hk⟩
  subst hf0 hf1
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; exact hf2
    iexact H2
  isplitl [H3]
  · iexists f3; isplitr; · ipureintro; exact hf3
    iexact H3
  iexists _; isplitr
  swap; · iexact HS0
  ipureintro
  rw [View.read_writes_eq_canon _ _ _ (View.cover_of_tiledL _ S512x5632.size (by sl_kernel_rfl)), View.canon_cons_unit_lit' _ _ _ (by decide)]
  unfold sound1_first.sl.v3
  congr 1
  · exact View.readCov_unit_lit' _ _ _ (by decide)
  · exact View.ld_unit_lit' _ _ (by decide)
  · exact View.ld_unit_lit' _ _ (by decide)

set_option maxHeartbeats 1000000 in
/-- At a step that is neither the first nor the last over the tokens the body adds the product of its blocks to the
    accumulator and does not touch the output. -/
theorem sound1_mid (c : Dev nD) (i : grid1.Coords) (arg2 : Memref sig .tc .vmem S1024x512 .bf16) (harg2 : arg2.IsWhole) (arg3 : Memref sig .tc .vmem S1024x5632 .bf16) (harg3 : arg3.IsWhole) (arg4 : Memref sig .tc .vmem S5632x256 .bf16) (harg4 : arg4.IsWhole) (arg5 : Memref sig .tc .vmem S512x256 .f32) (harg5 : arg5.IsWhole) (arg6 : Memref sig .tc .vmem S512x5632 .f32) (harg6 : arg6.IsWhole) (hc0 : ¬cond1_0 i) (hc1 : ¬cond1_1 i)
    (x0 : Vec F S1024x512 .bf16) (x1 : Vec F S1024x5632 .bf16) (x2 : Vec F S5632x256 .bf16) (xi3 : Vec F S512x256 .f32) (xs : Vec F S512x5632 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k1_pay2 xs x0 x1)) -∗ K ⟨⟩))
      ⊢ wp frame (wpE (defs₀ (F := F)) Variants.none c none) E (cc1_project i arg2 harg2 arg3 harg3 arg4 harg4 arg5 harg5 arg6 harg6) K := by
  simp only [cc1_project_eq_skeleton]; unfold cc1_project_skel
  unfold owns
  iintro ⟨⟨%f0, %hf0, H0⟩, ⟨%f1, %hf1, H1⟩, ⟨%f2, %hf2, H2⟩, ⟨%f3, %hf3, H3⟩, ⟨%fs0, %hs0, HS0⟩, Hk⟩
  subst hf0 hf1 hs0
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; exact hf2
    iexact H2
  isplitl [H3]
  · iexists f3; isplitr; · ipureintro; exact hf3
    iexact H3
  iexists _; isplitr
  swap; · iexact HS0
  ipureintro
  rw [View.read_writes_eq_canon _ _ _ (View.cover_of_tiledL _ S512x5632.size (by sl_kernel_rfl)), View.canon_cons_unit_lit' _ _ _ (by decide)]
  congr 1
  · exact View.ld_unit_lit' _ _ (by decide)
  · exact View.ld_unit_lit' _ _ (by decide)
  · exact View.ld_unit_lit' _ _ (by decide)

set_option maxHeartbeats 1000000 in
/-- At a last step over the tokens the body adds the product of its blocks to the accumulator and stores the accumulator,
    rounded, times the decoded factor. -/
theorem sound1_last (c : Dev nD) (i : grid1.Coords) (arg2 : Memref sig .tc .vmem S1024x512 .bf16) (harg2 : arg2.IsWhole) (arg3 : Memref sig .tc .vmem S1024x5632 .bf16) (harg3 : arg3.IsWhole) (arg4 : Memref sig .tc .vmem S5632x256 .bf16) (harg4 : arg4.IsWhole) (arg5 : Memref sig .tc .vmem S512x256 .f32) (harg5 : arg5.IsWhole) (arg6 : Memref sig .tc .vmem S512x5632 .f32) (harg6 : arg6.IsWhole) (hc0 : ¬cond1_0 i) (hc1 : cond1_1 i)
    (x0 : Vec F S1024x512 .bf16) (x1 : Vec F S1024x5632 .bf16) (x2 : Vec F S5632x256 .bf16) (xs : Vec F S512x5632 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k1_pay3 (k1_pay2 xs x0 x1) x2) ∗ owns (c : Thread nD τ) arg6 fullShare (k1_pay2 xs x0 x1)) -∗ K ⟨⟩))
      ⊢ wp frame (wpE (defs₀ (F := F)) Variants.none c none) E (cc1_project i arg2 harg2 arg3 harg3 arg4 harg4 arg5 harg5 arg6 harg6) K := by
  simp only [cc1_project_eq_skeleton]; unfold cc1_project_skel
  unfold owns
  iintro ⟨⟨%f0, %hf0, H0⟩, ⟨%f1, %hf1, H1⟩, ⟨%f2, %hf2, H2⟩, ⟨%d3, %f3, -, H3⟩, ⟨%fs0, %hs0, HS0⟩, Hk⟩
  subst hf0 hf1 hf2 hs0
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (View.cover_of_tiledL _ S512x256.size (by sl_kernel_rfl)), View.canon_cons_unit_lit' _ _ _ (by decide)]
    unfold sound1_last.sl.v16 sound1_last.sl.HS0_1
    congr 1
    · refine (View.readCov_unit_lit' _ _ _ (by decide)).trans ?_
      congr 1
      · exact View.ld_unit_lit' _ _ (by decide)
      · exact View.ld_unit_lit' _ _ (by decide)
      · exact View.ld_unit_lit' _ _ (by decide)
    · exact View.ld_unit_lit' _ _ (by decide)
  iexists _; isplitr
  swap; · iexact HS0
  ipureintro
  rw [View.read_writes_eq_canon _ _ _ (View.cover_of_tiledL _ S512x5632.size (by sl_kernel_rfl))]
  unfold sound1_last.sl.HS0_1
  rw [View.canon_cons_unit_lit' _ _ _ (by decide)]
  congr 1
  · exact View.ld_unit_lit' _ _ (by decide)
  · exact View.ld_unit_lit' _ _ (by decide)
  · exact View.ld_unit_lit' _ _ (by decide)

/-! ## What the accumulator holds after each point -/

/-- The accumulator after the body at position `n`: at a first step over the tokens the product of the blocks added to
    zeros, at any other step added to what the position before left. -/
def acc1 (c : Dev nD) : (n : ℕ) → n < cfg1.N → Vec F S512x5632 .f32
  | 0, hn => k1_pay2 (k1_pay1 (F := F)) (iblk1 V c 0 ⟨0, hn⟩) (iblk1 V c 1 ⟨0, hn⟩)
  | n + 1, hn =>
    k1_pay2 (if (n + 1) % 16 = 0 then k1_pay1 (F := F) else acc1 c n (Nat.lt_of_succ_lt hn))
      (iblk1 V c 0 ⟨n + 1, hn⟩) (iblk1 V c 1 ⟨n + 1, hn⟩)

/-- The accumulator after a first step. -/
theorem acc1_first (c : Dev nD) (t : Fin cfg1.N) (h0 : t.val % 16 = 0) :
    acc1 V c t.val t.isLt = k1_pay2 (k1_pay1 (F := F)) (iblk1 V c 0 t) (iblk1 V c 1 t) := by
  obtain ⟨n, hn⟩ := t
  cases n with
  | zero => rfl
  | succ n => dsimp only at h0 ⊢; unfold acc1; rw [if_pos h0]

/-- The accumulator after any other step. -/
theorem acc1_next (c : Dev nD) (t : Fin cfg1.N) (h0 : ¬t.val % 16 = 0) :
    acc1 V c t.val t.isLt = k1_pay2 (acc1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h0
  | succ n => dsimp only at h0 ⊢; rw [acc1, if_neg h0]; try rfl

/-- The region's invariant before position `n`: at the first position every scratch at anything, afterwards the accumulator
    at what the position before left. -/
def PhiS (c : Dev nD) : (n : ℕ) → n ≤ cfg1.N → sProp 𝕄
  | 0, _ => Pipeline.ΦA spec1 c
  | n + 1, hn => iprop(iprop(owns (c : Thread nD τ) scM1_0 fullShare (acc1 V c n hn)
          ∗ Pipeline.scopedRestBut (Ix := Unit) (Name := ℕ) (U := UR sig nD τ) (Lvl := ℕ) (Val := Elt F) spec1 c [cc1_scratch0]) ∗ (∃ r, prngReg c r))

/-- Before the first grid point the invariant of the project call is what the call is entered with. -/
theorem PhiS_zero (c : Dev nD) (n : ℕ) (h : n ≤ cfg1.N) (hz : n = 0) : PhiS V c n h = Pipeline.ΦA spec1 c := by
  subst hz; rfl

/-- After point `n`. -/
theorem PhiS_succ (c : Dev nD) (n : ℕ) (hn : n < cfg1.N) :
    PhiS V c (n + 1) hn = iprop(iprop(owns (c : Thread nD τ) scM1_0 fullShare (acc1 V c n hn)
          ∗ Pipeline.scopedRestBut (Ix := Unit) (Name := ℕ) (U := UR sig nD τ) (Lvl := ℕ) (Val := Elt F) spec1 c [cc1_scratch0]) ∗ (∃ r, prngReg c r)) := rfl

/-- Before a point that is not the first. -/
theorem PhiS_pos (c : Dev nD) (n : ℕ) (h : n ≤ cfg1.N) (hz : n ≠ 0) :
    PhiS V c n h = iprop(iprop(owns (c : Thread nD τ) scM1_0 fullShare (acc1 V c (n - 1) (by omega))
          ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of pipeline 1 on core `c`: the arrays as the region finds them (`V`); after the body at point `t` each
    input's buffer at its block and the output's at the rounded accumulator times the factor (read only at the last steps,
    elsewhere the window is idle); the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := PhiS V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-- What the body leaves, window by window. -/
theorem after1_0 (c : Dev nD) (t : Fin cfg1.N) : (dat1 V c).after 0 t = iblk1 V c 0 t := by dsimp only [dat1]
/-- What window 1 of the project call holds after a grid point. -/
theorem after1_1 (c : Dev nD) (t : Fin cfg1.N) : (dat1 V c).after 1 t = iblk1 V c 1 t := by dsimp only [dat1]
/-- What window 2 of the project call holds after a grid point. -/
theorem after1_2 (c : Dev nD) (t : Fin cfg1.N) : (dat1 V c).after 2 t = iblk1 V c 2 t := by dsimp only [dat1]
/-- What window 3 of the project call holds after a grid point. -/
theorem after1_3 (c : Dev nD) (t : Fin cfg1.N) : (dat1 V c).after 3 t = k1_pay3 (acc1 V c t.val t.isLt) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
/-- Window 1 of the project call holds its block before a grid point. -/
theorem before1_1 (c : Dev nD) (t : Fin cfg1.N) (d) : (dat1 V c).before 1 t d = iblk1 V c 1 t :=
  before1_1_of V (dat1 V c) (A_eq1 V c 1) (after1_1 V c) t d
/-- Window 2 of the project call holds its block before a grid point. -/
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: by the case the point is in, the case's triple, the accumulator taken out of the invariant and
    put back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
      unfold Dat.leavesExact; rw [liveAt1_0 t], after1_0]
  rw [show (dat1 V c).leavesExact 1 t = owns (c : Thread nD τ) (st1_1 t) fullShare ((dat1 V c).after 1 t) from by
      unfold Dat.leavesExact; rw [liveAt1_1 t], after1_1]
  rw [show (dat1 V c).leavesExact 2 t = owns (c : Thread nD τ) (st1_2 t) fullShare ((dat1 V c).after 2 t) from by
      unfold Dat.leavesExact; rw [liveAt1_2 t], after1_2]
  have hN : t.val < 64 := lt_of_lt_of_eq t.isLt (show cfg1.N = 64 from N_1)
  by_cases h0 : t.val % 16 = 0
  · have c0 := (hcond1_0 t).mpr h0
    have c1 : ¬cond1_1 (grid1.coords t) := fun h => by have := (hcond1_1 t).mp h; omega
    rw [Dat.leavesExact_idle (dat1 V c) 3 t (idleAt1_3_A t c0 c1) (noFlush1_3_A t c0 c1), acc1_first V c t h0]
    have hΦ : (dat1 V c).Φ t.castSucc ⊢ (Pipeline.ΦA spec1 c : sProp 𝕄) := by
      rw [PhiS_castSucc V c t]
      by_cases hz : t.val = 0
      · rw [PhiS_zero V c _ _ hz]
      · rw [PhiS_pos V c _ _ hz, PhiA1_eq]
        iintro ⟨⟨HS0, HR⟩, Hg⟩
        isplitl [HS0 HR]
        · isplitl [HS0]
          · iexists _; iexact HS0
          iexact HR
        iexact Hg
    rw [PhiA1_eq] at hΦ
    iintro ⟨HΦ, Ho, ⟨%d0, H0⟩, ⟨%d1, H1⟩, ⟨%d2, H2⟩, ⟨%d3, H3⟩⟩
    ihave HΦ' := hΦ $$ HΦ
    icases HΦ' with ⟨⟨HS0, HR⟩, Hg⟩
    iapply (sound1_first c (grid1.coords t) _ _ _ _ _ _ _ _ _ _ c0 c1 (iblk1 V c 0 t) (iblk1 V c 1 t) (iblk1 V c 2 t) _ Set.univ _)
    isplitl [H0]; · iexact H0
    isplitl [H1]; · iexact H1
    isplitl [H2]; · iexact H2
    isplitl [H3]; · iexact H3
    isplitl [HS0]; · iexact HS0
    iintro ⟨H0, H1, H2, H3, HS0⟩
    isplitl [HS0 HR Hg]
    · isplitl [HS0 HR]
      · isplitl [HS0]
        · iexact HS0
        iexact HR
      iexact Hg
    isplitl [Ho]; · iexact Ho
    isplitl [H0]; · iexact H0
    isplitl [H1]; · iexact H1
    isplitl [H2]; · iexact H2
    iexists _; iexact H3
  · have c0 : ¬cond1_0 (grid1.coords t) := fun h => h0 ((hcond1_0 t).mp h)
    have hz : t.val ≠ 0 := fun h => h0 (by rw [h])
    rw [PhiS_castSucc V c t, PhiS_pos V c _ _ hz, acc1_next V c t h0]
    by_cases h1 : t.val % 16 = 15
    · have c1 := (hcond1_1 t).mpr h1
      rw [show (dat1 V c).leavesExact 3 t = owns (c : Thread nD τ) (st1_3 t) fullShare ((dat1 V c).after 3 t) from by
          unfold Dat.leavesExact; rw [liveAt1_3_C t c0 c1], after1_3, acc1_next V c t h0]
      iintro ⟨⟨⟨HS0, HR⟩, Hg⟩, Ho, ⟨%d0, H0⟩, ⟨%d1, H1⟩, ⟨%d2, H2⟩, ⟨%d3, H3⟩⟩
      iapply (sound1_last c (grid1.coords t) _ _ _ _ _ _ _ _ _ _ c0 c1 (iblk1 V c 0 t) (iblk1 V c 1 t) (iblk1 V c 2 t) _ Set.univ _)
      isplitl [H0]; · iexact H0
      isplitl [H1]; · iexact H1
      isplitl [H2]; · iexact H2
      isplitl [H3]; · iexists _; iexact H3
      isplitl [HS0]; · iexact HS0
      iintro ⟨H0, H1, H2, H3, HS0⟩
      isplitl [HS0 HR Hg]
      · isplitl [HS0 HR]
        · isplitl [HS0]
          · iexact HS0
          iexact HR
        iexact Hg
      isplitl [Ho]; · iexact Ho
      isplitl [H0]; · iexact H0
      isplitl [H1]; · iexact H1
      isplitl [H2]; · iexact H2
      iexact H3
    · have c1 : ¬cond1_1 (grid1.coords t) := fun h => h1 ((hcond1_1 t).mp h)
      rw [Dat.leavesExact_idle (dat1 V c) 3 t (idleAt1_3_B t c0 c1) (noFlush1_3_B t c0 c1)]
      iintro ⟨⟨⟨HS0, HR⟩, Hg⟩, Ho, ⟨%d0, H0⟩, ⟨%d1, H1⟩, ⟨%d2, H2⟩, ⟨%d3, H3⟩⟩
      iapply (sound1_mid c (grid1.coords t) _ _ _ _ _ _ _ _ _ _ c0 c1 (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [HS0 HR Hg]
      · isplitl [HS0 HR]
        · isplitl [HS0]
          · iexact HS0
          iexact HR
        iexact Hg
      isplitl [Ho]; · iexact Ho
      isplitl [H0]; · iexact H0
      isplitl [H1]; · iexact H1
      isplitl [H2]; · iexact H2
      iexists _; iexact H3

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the accumulator's contents are forgotten. -/
theorem hout1 (c : Dev nD) : (dat1 V c).Φ (Fin.last cfg1.N) ⊢ Pipeline.ΦA spec1 c := by
  have hN : cfg1.N = 64 := N_1
  rw [show (dat1 V c).Φ (Fin.last cfg1.N) = PhiS V c (Fin.last cfg1.N).val (Nat.le_of_lt_succ (Fin.last cfg1.N).isLt) from rfl,
    PhiS_pos V c _ _ (by rw [Fin.val_last]; omega), PhiA1_eq]
  iintro ⟨⟨HS0, HR⟩, Hg⟩
  isplitl [HS0 HR]
  · isplitl [HS0]
    · iexists _; iexact HS0
    iexact HR
  iexact Hg

end Regions

end Cert.Kernel.Run

end
-- ==== Proof.K.Region2.lean ====
/- The moment-update call as one region: what its body leaves, the proof data of its pipeline and the body obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2_adam` (pipeline 2), at the entry contents `V` -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S2048x256 := Rect.unit (s := S2048x256) ![0, 0] S2048x256.size inb_S2048x256_S2048x256_0_0
abbrev r2_1 : Rect S256x2048 := Rect.unit (s := S256x2048) ![0, 0] S256x128.size inb_S256x2048_S256x128_0_0
abbrev r2_2 : Rect S256x16 := Rect.unit (s := S256x16) ![0, 0] S256x1.size inb_S256x16_S256x1_0_0
abbrev r2_3 : Rect S256x2048 := Rect.unit (s := S256x2048) ![0, 128] S256x128.size inb_S256x2048_S256x128_0_128
abbrev r2_4 : Rect S256x16 := Rect.unit (s := S256x16) ![0, 1] S256x1.size inb_S256x16_S256x1_0_1
abbrev r2_5 : Rect S256x2048 := Rect.unit (s := S256x2048) ![0, 256] S256x128.size inb_S256x2048_S256x128_0_256
abbrev r2_6 : Rect S256x16 := Rect.unit (s := S256x16) ![0, 2] S256x1.size inb_S256x16_S256x1_0_2
abbrev r2_7 : Rect S256x2048 := Rect.unit (s := S256x2048) ![0, 384] S256x128.size inb_S256x2048_S256x128_0_384
abbrev r2_8 : Rect S256x16 := Rect.unit (s := S256x16) ![0, 3] S256x1.size inb_S256x16_S256x1_0_3
abbrev r2_9 : Rect S256x2048 := Rect.unit (s := S256x2048) ![0, 512] S256x128.size inb_S256x2048_S256x128_0_512
abbrev r2_10 : Rect S256x16 := Rect.unit (s := S256x16) ![0, 4] S256x1.size inb_S256x16_S256x1_0_4
abbrev r2_11 : Rect S256x2048 := Rect.unit (s := S256x2048) ![0, 640] S256x128.size inb_S256x2048_S256x128_0_640
abbrev r2_12 : Rect S256x16 := Rect.unit (s := S256x16) ![0, 5] S256x1.size inb_S256x16_S256x1_0_5
abbrev r2_13 : Rect S256x2048 := Rect.unit (s := S256x2048) ![0, 768] S256x128.size inb_S256x2048_S256x128_0_768
abbrev r2_14 : Rect S256x16 := Rect.unit (s := S256x16) ![0, 6] S256x1.size inb_S256x16_S256x1_0_6
abbrev r2_15 : Rect S256x2048 := Rect.unit (s := S256x2048) ![0, 896] S256x128.size inb_S256x2048_S256x128_0_896
abbrev r2_16 : Rect S256x16 := Rect.unit (s := S256x16) ![0, 7] S256x1.size inb_S256x16_S256x1_0_7
abbrev r2_17 : Rect S256x2048 := Rect.unit (s := S256x2048) ![0, 1024] S256x128.size inb_S256x2048_S256x128_0_1024
abbrev r2_18 : Rect S256x16 := Rect.unit (s := S256x16) ![0, 8] S256x1.size inb_S256x16_S256x1_0_8
abbrev r2_19 : Rect S256x2048 := Rect.unit (s := S256x2048) ![0, 1152] S256x128.size inb_S256x2048_S256x128_0_1152
abbrev r2_20 : Rect S256x16 := Rect.unit (s := S256x16) ![0, 9] S256x1.size inb_S256x16_S256x1_0_9
abbrev r2_21 : Rect S256x2048 := Rect.unit (s := S256x2048) ![0, 1280] S256x128.size inb_S256x2048_S256x128_0_1280
abbrev r2_22 : Rect S256x16 := Rect.unit (s := S256x16) ![0, 10] S256x1.size inb_S256x16_S256x1_0_10
abbrev r2_23 : Rect S256x2048 := Rect.unit (s := S256x2048) ![0, 1408] S256x128.size inb_S256x2048_S256x128_0_1408
abbrev r2_24 : Rect S256x16 := Rect.unit (s := S256x16) ![0, 11] S256x1.size inb_S256x16_S256x1_0_11
abbrev r2_25 : Rect S256x2048 := Rect.unit (s := S256x2048) ![0, 1536] S256x128.size inb_S256x2048_S256x128_0_1536
abbrev r2_26 : Rect S256x16 := Rect.unit (s := S256x16) ![0, 12] S256x1.size inb_S256x16_S256x1_0_12
abbrev r2_27 : Rect S256x2048 := Rect.unit (s := S256x2048) ![0, 1664] S256x128.size inb_S256x2048_S256x128_0_1664
abbrev r2_28 : Rect S256x16 := Rect.unit (s := S256x16) ![0, 13] S256x1.size inb_S256x16_S256x1_0_13
abbrev r2_29 : Rect S256x2048 := Rect.unit (s := S256x2048) ![0, 1792] S256x128.size inb_S256x2048_S256x128_0_1792
abbrev r2_30 : Rect S256x16 := Rect.unit (s := S256x16) ![0, 14] S256x1.size inb_S256x16_S256x1_0_14
abbrev r2_31 : Rect S256x2048 := Rect.unit (s := S256x2048) ![0, 1920] S256x128.size inb_S256x2048_S256x128_0_1920
abbrev r2_32 : Rect S256x16 := Rect.unit (s := S256x16) ![0, 15] S256x1.size inb_S256x16_S256x1_0_15

/-! ## What the body leaves in each output window's buffer -/

/-! ### Values of the body that the stores' payloads, spelt out, would write more than once

    Each is a vector the body binds (often a part call's result), stated over the input windows' blocks and
    numbered on from the skeleton's payload functions (`k2_pay170` …, after `k2_pay169`), so that
    `out2_W` and the values after it name it instead of spelling it out; the comment after each is the printed function's
    name for the value (a count appended where that name is bound again). -/

def k2_pay170 (x0 : Vec F S2048x256 .f32) (x1 : Vec F S256x2048 .i8) (x2 : Vec F S256x16 .f32) (x3 : Vec F S256x2048 .i8) (x4 : Vec F S256x16 .f32) : FVec F S256x2048 .f32 :=
  k2_pay2 (View.ld x0 r2_0) -- `v2`
def k2_pay171 (x0 : Vec F S2048x256 .f32) (x1 : Vec F S256x2048 .i8) (x2 : Vec F S256x16 .f32) (x3 : Vec F S256x2048 .i8) (x4 : Vec F S256x16 .f32) : FVec F S256x128 .f32 :=
  k2_pay5 (View.ld x0 r2_0) (View.ld x3 r2_1) (View.ld x4 r2_2) -- `v24`
def k2_pay172 (x0 : Vec F S2048x256 .f32) (x1 : Vec F S256x2048 .i8) (x2 : Vec F S256x16 .f32) (x3 : Vec F S256x2048 .i8) (x4 : Vec F S256x16 .f32) : FVec F S256x1 .f32 :=
  k2_pay7 (View.ld x0 r2_0) (View.ld x1 r2_1) (View.ld x2 r2_2) -- `v36`
def k2_pay173 (x0 : Vec F S2048x256 .f32) (x1 : Vec F S256x2048 .i8) (x2 : Vec F S256x16 .f32) (x3 : Vec F S256x2048 .i8) (x4 : Vec F S256x16 .f32) : FVec F S256x1 .f32 :=
  k2_pay8 (F := F) -- `v37`
def k2_pay174 (x0 : Vec F S2048x256 .f32) (x1 : Vec F S256x2048 .i8) (x2 : Vec F S256x16 .f32) (x3 : Vec F S256x2048 .i8) (x4 : Vec F S256x16 .f32) : FVec F S256x128 .f32 :=
  k2_pay13 (k2_pay170 x0 x1 x2 x3 x4) -- `v72`
def k2_pay175 (x0 : Vec F S2048x256 .f32) (x1 : Vec F S256x2048 .i8) (x2 : Vec F S256x16 .f32) (x3 : Vec F S256x2048 .i8) (x4 : Vec F S256x16 .f32) : FVec F S256x128 .f32 :=
  k2_pay15 (k2_pay174 x0 x1 x2 x3 x4) (View.ld x3 r2_3) (View.ld x4 r2_4) -- `v93`
def k2_pay176 (x0 : Vec F S2048x256 .f32) (x1 : Vec F S256x2048 .i8) (x2 : Vec F S256x16 .f32) (x3 : Vec F S256x2048 .i8) (x4 : Vec F S256x16 .f32) : FVec F S256x128 .f32 :=
  k2_pay22 (k2_pay170 x0 x1 x2 x3 x4) -- `v141`
def k2_pay177 (x0 : Vec F S2048x256 .f32) (x1 : Vec F S256x2048 .i8) (x2 : Vec F S256x16 .f32) (x3 : Vec F S256x2048 .i8) (x4 : Vec F S256x16 .f32) : FVec F S256x128 .f32 :=
  k2_pay23 (View.ld x1 r2_5) (View.ld x2 r2_6) -- `v146`
def k2_pay178 (x0 : Vec F S2048x256 .f32) (x1 : Vec F S256x2048 .i8) (x2 : Vec F S256x16 .f32) (x3 : Vec F S256x2048 .i8) (x4 : Vec F S256x16 .f32) : FVec F S256x128 .f32 :=
  k2_pay25 (k2_pay176 x0 x1 x2 x3 x4) (View.ld x3 r2_5) (View.ld x4 r2_6) -- `v162`
def k2_pay179 (x0 : Vec F S2048x256 .f32) (x1 : Vec F S256x2048 .i8) (x2 : Vec F S256x16 .f32) (x3 : Vec F S256x2048 .i8) (x4 : Vec F S256x16 .f32) : FVec F S256x128 .f32 :=
  k2_pay31 (k2_pay170 x0 x1 x2 x3 x4) -- `v210`
def k2_pay180 (x0 : Vec F S2048x256 .f32) (x1 : Vec F S256x2048 .i8) (x2 : Vec F S256x16 .f32) (x3 : Vec F S256x2048 .i8) (x4 : Vec F S256x16 .f32) : FVec F S256x128 .f32 :=
  k2_pay32 (View.ld x3 r2_7) (View.ld x4 r2_8) -- `v220`
def k2_pay181 (x0 : Vec F S2048x256 .f32) (x1 : Vec F S256x2048 .i8) (x2 : Vec F S256x16 .f32) (x3 : Vec F S256x2048 .i8) (x4 : Vec F S256x16 .f32) : FVec F S256x128 .f32 :=
  k2_pay33 (View.ld x1 r2_7) (View.ld x2 r2_8) -- `v222`
def k2_pay182 (x0 : Vec F S2048x256 .f32) (x1 : Vec F S256x2048 .i8) (x2 : Vec F S256x16 .f32) (x3 : Vec F S256x2048 .i8) (x4 : Vec F S256x16 .f32) : FVec F S256x128 .f32 :=
  k2_pay39 (k2_pay179 x0 x1 x2 x3 x4) (k2_pay180 x0 x1 x2 x3 x4) -- `v260`
def k2_pay183 (x0 : Vec F S2048x256 .f32) (x1 : Vec F S256x2048 .i8) (x2 : Vec F S256x16 .f32) (x3 : Vec F S256x2048 .i8) (x4 : Vec F S256x16 .f32) : FVec F S256x128 .f32 :=
  k2_pay42 (k2_pay170 x0 x1 x2 x3 x4) -- `v279`
def k2_pay184 (x0 : Vec F S2048x256 .f32) (x1 : Vec F S256x2048 .i8) (x2 : Vec F S256x16 .f32) (x3 : Vec F S256x2048 .i8) (x4 : Vec F S256x16 .f32) : FVec F S256x128 .f32 :=
  k2_pay43 (k2_pay170 x0 x1 x2 x3 x4) (View.ld x1 r2_9) (View.ld x2 r2_10) -- `v294`
def k2_pay185 (x0 : Vec F S2048x256 .f32) (x1 : Vec F S256x2048 .i8) (x2 : Vec F S256x16 .f32) (x3 : Vec F S256x2048 .i8) (x4 : Vec F S256x16 .f32) : FVec F S256x128 .f32 :=
  k2_pay44 (View.ld x3 r2_9) (View.ld x4 r2_10) -- `v296`
def k2_pay186 (x0 : Vec F S2048x256 .f32) (x1 : Vec F S256x2048 .i8) (x2 : Vec F S256x16 .f32) (x3 : Vec F S256x2048 .i8) (x4 : Vec F S256x16 .f32) : FVec F S256x128 .f32 :=
  k2_pay45 (F := F) -- `v297`
def k2_pay187 (x0 : Vec F S2048x256 .f32) (x1 : Vec F S256x2048 .i8) (x2 : Vec F S256x16 .f32) (x3 : Vec F S256x2048 .i8) (x4 : Vec F S256x16 .f32) : IVec S256x1 1 :=
  k2_pay51 (k2_pay183 x0 x1 x2 x3 x4) (k2_pay185 x0 x1 x2 x3 x4) (k2_pay186 x0 x1 x2 x3 x4) -- `v333`
def k2_pay188 (x0 : Vec F S2048x256 .f32) (x1 : Vec F S256x2048 .i8) (x2 : Vec F S256x16 .f32) (x3 : Vec F S256x2048 .i8) (x4 : Vec F S256x16 .f32) : FVec F S256x1 .f32 :=
  k2_pay52 (k2_pay183 x0 x1 x2 x3 x4) (k2_pay185 x0 x1 x2 x3 x4) (k2_pay186 x0 x1 x2 x3 x4) -- `v335`
def k2_pay189 (x0 : Vec F S2048x256 .f32) (x1 : Vec F S256x2048 .i8) (x2 : Vec F S256x16 .f32) (x3 : Vec F S256x2048 .i8) (x4 : Vec F S256x16 .f32) : FVec F S256x128 .f32 :=
  k2_pay56 (k2_pay170 x0 x1 x2 x3 x4) (View.ld x1 r2_11) (View.ld x2 r2_12) -- `v363`
def k2_pay190 (x0 : Vec F S2048x256 .f32) (x1 : Vec F S256x2048 .i8) (x2 : Vec F S256x16 .f32) (x3 : Vec F S256x2048 .i8) (x4 : Vec F S256x16 .f32) : FVec F S256x128 .f32 :=
  k2_pay57 (k2_pay170 x0 x1 x2 x3 x4) (View.ld x3 r2_11) (View.ld x4 r2_12) -- `v369`
def k2_pay191 (x0 : Vec F S2048x256 .f32) (x1 : Vec F S256x2048 .i8) (x2 : Vec F S256x16 .f32) (x3 : Vec F S256x2048 .i8) (x4 : Vec F S256x16 .f32) : FVec F S256x128 .f32 :=
  k2_pay67 (k2_pay170 x0 x1 x2 x3 x4) (View.ld x1 r2_13) (View.ld x2 r2_14) -- `v432`
def k2_pay192 (x0 : Vec F S2048x256 .f32) (x1 : Vec F S256x2048 .i8) (x2 : Vec F S256x16 .f32) (x3 : Vec F S256x2048 .i8) (x4 : Vec F S256x16 .f32) : FVec F S256x128 .f32 :=
  k2_pay68 (k2_pay170 x0 x1 x2 x3 x4) (View.ld x3 r2_13) (View.ld x4 r2_14) -- `v438`
def k2_pay193 (x0 : Vec F S2048x256 .f32) (x1 : Vec F S256x2048 .i8) (x2 : Vec F S256x16 .f32) (x3 : Vec F S256x2048 .i8) (x4 : Vec F S256x16 .f32) : FVec F S256x128 .f32 :=
  k2_pay76 (k2_pay170 x0 x1 x2 x3 x4) (View.ld x3 r2_15) (View.ld x4 r2_16) -- `v507`
def k2_pay194 (x0 : Vec F S2048x256 .f32) (x1 : Vec F S256x2048 .i8) (x2 : Vec F S256x16 .f32) (x3 : Vec F S256x2048 .i8) (x4 : Vec F S256x16 .f32) : FVec F S256x1 .f32 :=
  k2_pay78 (k2_pay170 x0 x1 x2 x3 x4) (View.ld x1 r2_15) (View.ld x2 r2_16) -- `v519`
def k2_pay195 (x0 : Vec F S2048x256 .f32) (x1 : Vec F S256x2048 .i8) (x2 : Vec F S256x16 .f32) (x3 : Vec F S256x2048 .i8) (x4 : Vec F S256x16 .f32) : IVec S256x1 1 :=
  k2_pay79 (k2_pay170 x0 x1 x2 x3 x4) (View.ld x1 r2_15) (View.ld x2 r2_16) -- `v521`
def k2_pay196 (x0 : Vec F S2048x256 .f32) (x1 : Vec F S256x2048 .i8) (x2 : Vec F S256x16 .f32) (x3 : Vec F S256x2048 .i8) (x4 : Vec F S256x16 .f32) : FVec F S256x1 .f32 :=
  k2_pay80 (F := F) -- `v522`
def k2_pay197 (x0 : Vec F S2048x256 .f32) (x1 : Vec F S256x2048 .i8) (x2 : Vec F S256x16 .f32) (x3 : Vec F S256x2048 .i8) (x4 : Vec F S256x16 .f32) : FVec F S256x128 .f32 :=
  k2_pay85 (k2_pay170 x0 x1 x2 x3 x4) -- `v555`
def k2_pay198 (x0 : Vec F S2048x256 .f32) (x1 : Vec F S256x2048 .i8) (x2 : Vec F S256x16 .f32) (x3 : Vec F S256x2048 .i8) (x4 : Vec F S256x16 .f32) : FVec F S256x128 .f32 :=
  k2_pay86 (View.ld x1 r2_17) -- `v557`
def k2_pay199 (x0 : Vec F S2048x256 .f32) (x1 : Vec F S256x2048 .i8) (x2 : Vec F S256x16 .f32) (x3 : Vec F S256x2048 .i8) (x4 : Vec F S256x16 .f32) : FVec F S256x128 .f32 :=
  k2_pay88 (k2_pay197 x0 x1 x2 x3 x4) (View.ld x3 r2_17) (View.ld x4 r2_18) -- `v576`
def k2_pay200 (x0 : Vec F S2048x256 .f32) (x1 : Vec F S256x2048 .i8) (x2 : Vec F S256x16 .f32) (x3 : Vec F S256x2048 .i8) (x4 : Vec F S256x16 .f32) : FVec F S256x128 .f32 :=
  k2_pay95 (k2_pay170 x0 x1 x2 x3 x4) -- `v624`
def k2_pay201 (x0 : Vec F S2048x256 .f32) (x1 : Vec F S256x2048 .i8) (x2 : Vec F S256x16 .f32) (x3 : Vec F S256x2048 .i8) (x4 : Vec F S256x16 .f32) : FVec F S256x128 .f32 :=
  k2_pay96 (View.ld x1 r2_19) (View.ld x2 r2_20) -- `v629`
def k2_pay202 (x0 : Vec F S2048x256 .f32) (x1 : Vec F S256x2048 .i8) (x2 : Vec F S256x16 .f32) (x3 : Vec F S256x2048 .i8) (x4 : Vec F S256x16 .f32) : FVec F S256x128 .f32 :=
  k2_pay97 (View.ld x3 r2_19) -- `v631`
def k2_pay203 (x0 : Vec F S2048x256 .f32) (x1 : Vec F S256x2048 .i8) (x2 : Vec F S256x16 .f32) (x3 : Vec F S256x2048 .i8) (x4 : Vec F S256x16 .f32) : FVec F S256x128 .f32 :=
  k2_pay99 (k2_pay200 x0 x1 x2 x3 x4) (k2_pay202 x0 x1 x2 x3 x4) (View.ld x4 r2_20) -- `v645`
def k2_pay204 (x0 : Vec F S2048x256 .f32) (x1 : Vec F S256x2048 .i8) (x2 : Vec F S256x16 .f32) (x3 : Vec F S256x2048 .i8) (x4 : Vec F S256x16 .f32) : FVec F S256x128 .f32 :=
  k2_pay105 (k2_pay170 x0 x1 x2 x3 x4) -- `v693`
def k2_pay205 (x0 : Vec F S2048x256 .f32) (x1 : Vec F S256x2048 .i8) (x2 : Vec F S256x16 .f32) (x3 : Vec F S256x2048 .i8) (x4 : Vec F S256x16 .f32) : FVec F S256x128 .f32 :=
  k2_pay106 (View.ld x3 r2_21) (View.ld x4 r2_22) -- `v703`
def k2_pay206 (x0 : Vec F S2048x256 .f32) (x1 : Vec F S256x2048 .i8) (x2 : Vec F S256x16 .f32) (x3 : Vec F S256x2048 .i8) (x4 : Vec F S256x16 .f32) : FVec F S256x128 .f32 :=
  k2_pay107 (View.ld x1 r2_21) (View.ld x2 r2_22) -- `v705`
def k2_pay207 (x0 : Vec F S2048x256 .f32) (x1 : Vec F S256x2048 .i8) (x2 : Vec F S256x16 .f32) (x3 : Vec F S256x2048 .i8) (x4 : Vec F S256x16 .f32) : FVec F S256x128 .f32 :=
  k2_pay108 (k2_pay170 x0 x1 x2 x3 x4) -- `v707`
def k2_pay208 (x0 : Vec F S2048x256 .f32) (x1 : Vec F S256x2048 .i8) (x2 : Vec F S256x16 .f32) (x3 : Vec F S256x2048 .i8) (x4 : Vec F S256x16 .f32) : FVec F S256x1 .f32 :=
  k2_pay114 (k2_pay204 x0 x1 x2 x3 x4) (k2_pay205 x0 x1 x2 x3 x4) -- `v745`
def k2_pay209 (x0 : Vec F S2048x256 .f32) (x1 : Vec F S256x2048 .i8) (x2 : Vec F S256x16 .f32) (x3 : Vec F S256x2048 .i8) (x4 : Vec F S256x16 .f32) : FVec F S256x128 .f32 :=
  k2_pay118 (k2_pay170 x0 x1 x2 x3 x4) (View.ld x1 r2_23) (View.ld x2 r2_24) -- `v777`
def k2_pay210 (x0 : Vec F S2048x256 .f32) (x1 : Vec F S256x2048 .i8) (x2 : Vec F S256x16 .f32) (x3 : Vec F S256x2048 .i8) (x4 : Vec F S256x16 .f32) : FVec F S256x128 .f32 :=
  k2_pay119 (k2_pay170 x0 x1 x2 x3 x4) (View.ld x3 r2_23) (View.ld x4 r2_24) -- `v783`
def k2_pay211 (x0 : Vec F S2048x256 .f32) (x1 : Vec F S256x2048 .i8) (x2 : Vec F S256x16 .f32) (x3 : Vec F S256x2048 .i8) (x4 : Vec F S256x16 .f32) : FVec F S256x128 .f32 :=
  k2_pay127 (k2_pay170 x0 x1 x2 x3 x4) (View.ld x1 r2_25) (View.ld x2 r2_26) -- `v846`
def k2_pay212 (x0 : Vec F S2048x256 .f32) (x1 : Vec F S256x2048 .i8) (x2 : Vec F S256x16 .f32) (x3 : Vec F S256x2048 .i8) (x4 : Vec F S256x16 .f32) : FVec F S256x128 .f32 :=
  k2_pay128 (k2_pay170 x0 x1 x2 x3 x4) (View.ld x3 r2_25) (View.ld x4 r2_26) -- `v852`
def k2_pay213 (x0 : Vec F S2048x256 .f32) (x1 : Vec F S256x2048 .i8) (x2 : Vec F S256x16 .f32) (x3 : Vec F S256x2048 .i8) (x4 : Vec F S256x16 .f32) : FVec F S256x128 .f32 :=
  k2_pay139 (k2_pay170 x0 x1 x2 x3 x4) (View.ld x3 r2_27) (View.ld x4 r2_28) -- `v921`
def k2_pay214 (x0 : Vec F S2048x256 .f32) (x1 : Vec F S256x2048 .i8) (x2 : Vec F S256x16 .f32) (x3 : Vec F S256x2048 .i8) (x4 : Vec F S256x16 .f32) : FVec F S256 .f32 :=
  k2_pay141 (k2_pay170 x0 x1 x2 x3 x4) (View.ld x1 r2_27) (View.ld x2 r2_28) -- `v932`
def k2_pay215 (x0 : Vec F S2048x256 .f32) (x1 : Vec F S256x2048 .i8) (x2 : Vec F S256x16 .f32) (x3 : Vec F S256x2048 .i8) (x4 : Vec F S256x16 .f32) : FVec F S256x128 .f32 :=
  k2_pay146 (k2_pay170 x0 x1 x2 x3 x4) -- `v969`
def k2_pay216 (x0 : Vec F S2048x256 .f32) (x1 : Vec F S256x2048 .i8) (x2 : Vec F S256x16 .f32) (x3 : Vec F S256x2048 .i8) (x4 : Vec F S256x16 .f32) : FVec F S256x128 .f32 :=
  k2_pay148 (k2_pay215 x0 x1 x2 x3 x4) (View.ld x3 r2_29) (View.ld x4 r2_30) -- `v990`
def k2_pay217 (x0 : Vec F S2048x256 .f32) (x1 : Vec F S256x2048 .i8) (x2 : Vec F S256x16 .f32) (x3 : Vec F S256x2048 .i8) (x4 : Vec F S256x16 .f32) : IVec S256x1 1 :=
  k2_pay151 (k2_pay215 x0 x1 x2 x3 x4) (View.ld x1 r2_29) (View.ld x2 r2_30) -- `v1004`
def k2_pay218 (x0 : Vec F S2048x256 .f32) (x1 : Vec F S256x2048 .i8) (x2 : Vec F S256x16 .f32) (x3 : Vec F S256x2048 .i8) (x4 : Vec F S256x16 .f32) : FVec F S256x1 .f32 :=
  k2_pay152 (k2_pay215 x0 x1 x2 x3 x4) (View.ld x1 r2_29) (View.ld x2 r2_30) -- `v1006`
def k2_pay219 (x0 : Vec F S2048x256 .f32) (x1 : Vec F S256x2048 .i8) (x2 : Vec F S256x16 .f32) (x3 : Vec F S256x2048 .i8) (x4 : Vec F S256x16 .f32) : FVec F S256x1 .f32 :=
  k2_pay153 (F := F) -- `v1007`
def k2_pay220 (x0 : Vec F S2048x256 .f32) (x1 : Vec F S256x2048 .i8) (x2 : Vec F S256x16 .f32) (x3 : Vec F S256x2048 .i8) (x4 : Vec F S256x16 .f32) : FVec F S256x128 .f32 :=
  k2_pay158 (k2_pay170 x0 x1 x2 x3 x4) -- `v1038`
def k2_pay221 (x0 : Vec F S2048x256 .f32) (x1 : Vec F S256x2048 .i8) (x2 : Vec F S256x16 .f32) (x3 : Vec F S256x2048 .i8) (x4 : Vec F S256x16 .f32) : FVec F S256x128 .f32 :=
  k2_pay159 (View.ld x1 r2_31) (View.ld x2 r2_32) -- `v1043`
def k2_pay222 (x0 : Vec F S2048x256 .f32) (x1 : Vec F S256x2048 .i8) (x2 : Vec F S256x16 .f32) (x3 : Vec F S256x2048 .i8) (x4 : Vec F S256x16 .f32) : FVec F S256x128 .f32 :=
  k2_pay161 (k2_pay220 x0 x1 x2 x3 x4) (View.ld x3 r2_31) (View.ld x4 r2_32) -- `v1059`

/-- Window 5's staging buffer after the body, from the input windows' blocks: its 16 stores as pieces, LAST
    FIRST (Lib/Pipeline/FrameBody.lean `View.canon`; the payloads are the skeleton's and the values stated above). -/
def out2_5 (x0 : Vec F S2048x256 .f32) (x1 : Vec F S256x2048 .i8) (x2 : Vec F S256x16 .f32) (x3 : Vec F S256x2048 .i8) (x4 : Vec F S256x16 .f32) : Vec F S256x2048 .f32 :=
  View.canon [⟨r2_31, k2_pay162 (k2_pay220 x0 x1 x2 x3 x4) (k2_pay221 x0 x1 x2 x3 x4) (View.ld x3 r2_31) (View.ld x4 r2_32)⟩,
    ⟨r2_29, k2_pay149 (k2_pay215 x0 x1 x2 x3 x4) (View.ld x1 r2_29) (View.ld x2 r2_30) (View.ld x3 r2_29) (View.ld x4 r2_30)⟩,
    ⟨r2_27, k2_pay140 (k2_pay170 x0 x1 x2 x3 x4) (View.ld x1 r2_27) (View.ld x2 r2_28) (View.ld x3 r2_27) (View.ld x4 r2_28)⟩,
    ⟨r2_25, k2_pay132 (k2_pay129 (k2_pay170 x0 x1 x2 x3 x4) (View.ld x1 r2_25) (View.ld x2 r2_26)) (k2_pay130 (k2_pay170 x0 x1 x2 x3 x4) (View.ld x3 r2_25) (View.ld x4 r2_26)) (k2_pay131 (F := F))⟩,
    ⟨r2_23, k2_pay120 (k2_pay209 x0 x1 x2 x3 x4) (k2_pay210 x0 x1 x2 x3 x4)⟩,
    ⟨r2_21, k2_pay111 (k2_pay204 x0 x1 x2 x3 x4) (k2_pay205 x0 x1 x2 x3 x4) (k2_pay206 x0 x1 x2 x3 x4) (k2_pay207 x0 x1 x2 x3 x4)⟩,
    ⟨r2_19, k2_pay100 (k2_pay200 x0 x1 x2 x3 x4) (k2_pay201 x0 x1 x2 x3 x4) (k2_pay202 x0 x1 x2 x3 x4) (View.ld x4 r2_20)⟩,
    ⟨r2_17, k2_pay89 (k2_pay197 x0 x1 x2 x3 x4) (k2_pay198 x0 x1 x2 x3 x4) (View.ld x2 r2_18) (View.ld x3 r2_17) (View.ld x4 r2_18)⟩,
    ⟨r2_15, k2_pay77 (k2_pay170 x0 x1 x2 x3 x4) (View.ld x1 r2_15) (View.ld x2 r2_16) (View.ld x3 r2_15) (View.ld x4 r2_16)⟩,
    ⟨r2_13, k2_pay69 (k2_pay170 x0 x1 x2 x3 x4) (View.ld x1 r2_13) (View.ld x2 r2_14) (View.ld x3 r2_13) (View.ld x4 r2_14)⟩,
    ⟨r2_11, k2_pay60 (k2_pay58 (k2_pay170 x0 x1 x2 x3 x4) (View.ld x1 r2_11) (View.ld x2 r2_12)) (k2_pay59 (k2_pay170 x0 x1 x2 x3 x4) (View.ld x3 r2_11) (View.ld x4 r2_12))⟩,
    ⟨r2_9, k2_pay47 (k2_pay183 x0 x1 x2 x3 x4) (k2_pay184 x0 x1 x2 x3 x4) (k2_pay185 x0 x1 x2 x3 x4) (k2_pay186 x0 x1 x2 x3 x4)⟩,
    ⟨r2_7, k2_pay36 (k2_pay179 x0 x1 x2 x3 x4) (k2_pay180 x0 x1 x2 x3 x4) (k2_pay181 x0 x1 x2 x3 x4)⟩,
    ⟨r2_5, k2_pay26 (k2_pay176 x0 x1 x2 x3 x4) (k2_pay177 x0 x1 x2 x3 x4) (View.ld x3 r2_5) (View.ld x4 r2_6)⟩,
    ⟨r2_3, k2_pay16 (k2_pay174 x0 x1 x2 x3 x4) (View.ld x1 r2_3) (View.ld x2 r2_4) (View.ld x3 r2_3) (View.ld x4 r2_4)⟩,
    ⟨r2_1, k2_pay6 (View.ld x0 r2_0) (View.ld x1 r2_1) (View.ld x2 r2_2) (View.ld x3 r2_1) (View.ld x4 r2_2)⟩]

/-- Its stores tile the buffer (checked by evaluation), so they cover it. -/
theorem cover2_5 (p0 : Vec F S256x128 .f32) (p1 : Vec F S256x128 .f32) (p2 : Vec F S256x128 .f32) (p3 : Vec F S256x128 .f32) (p4 : Vec F S256x128 .f32) (p5 : Vec F S256x128 .f32) (p6 : Vec F S256x128 .f32) (p7 : Vec F S256x128 .f32) (p8 : Vec F S256x128 .f32) (p9 : Vec F S256x128 .f32) (p10 : Vec F S256x128 .f32) (p11 : Vec F S256x128 .f32) (p12 : Vec F S256x128 .f32) (p13 : Vec F S256x128 .f32) (p14 : Vec F S256x128 .f32) (p15 : Vec F S256x128 .f32) (y : S256x2048.Idx) :
    ∃ pc ∈ ([⟨r2_31, p0⟩, ⟨r2_29, p1⟩, ⟨r2_27, p2⟩, ⟨r2_25, p3⟩, ⟨r2_23, p4⟩, ⟨r2_21, p5⟩, ⟨r2_19, p6⟩, ⟨r2_17, p7⟩, ⟨r2_15, p8⟩, ⟨r2_13, p9⟩, ⟨r2_11, p10⟩, ⟨r2_9, p11⟩, ⟨r2_7, p12⟩, ⟨r2_5, p13⟩, ⟨r2_3, p14⟩, ⟨r2_1, p15⟩] : List (View.Piece (Elt F) S256x2048 .f32)), y ∈ pc.1.set :=
  View.cover_of_tiled [⟨r2_31, p0⟩, ⟨r2_29, p1⟩, ⟨r2_27, p2⟩, ⟨r2_25, p3⟩, ⟨r2_23, p4⟩, ⟨r2_21, p5⟩, ⟨r2_19, p6⟩, ⟨r2_17, p7⟩, ⟨r2_15, p8⟩, ⟨r2_13, p9⟩, ⟨r2_11, p10⟩, ⟨r2_9, p11⟩, ⟨r2_7, p12⟩, ⟨r2_5, p13⟩, ⟨r2_3, p14⟩, ⟨r2_1, p15⟩] S256x128.size (by rfl) y

/-- Window 6's staging buffer after the body, from the input windows' blocks: its 16 stores as pieces, LAST
    FIRST (Lib/Pipeline/FrameBody.lean `View.canon`; the payloads are the skeleton's and the values stated above). -/
def out2_6 (x0 : Vec F S2048x256 .f32) (x1 : Vec F S256x2048 .i8) (x2 : Vec F S256x16 .f32) (x3 : Vec F S256x2048 .i8) (x4 : Vec F S256x16 .f32) : Vec F S256x2048 .i8 :=
  View.canon [⟨r2_31, k2_pay166 (k2_pay164 (k2_pay220 x0 x1 x2 x3 x4) (k2_pay221 x0 x1 x2 x3 x4)) (k2_pay165 (F := F))⟩,
    ⟨r2_29, k2_pay155 (k2_pay147 (k2_pay215 x0 x1 x2 x3 x4) (View.ld x1 r2_29) (View.ld x2 r2_30)) (k2_pay217 x0 x1 x2 x3 x4) (k2_pay218 x0 x1 x2 x3 x4) (k2_pay219 x0 x1 x2 x3 x4)⟩,
    ⟨r2_27, k2_pay143 (k2_pay138 (k2_pay170 x0 x1 x2 x3 x4) (View.ld x1 r2_27) (View.ld x2 r2_28)) (k2_pay214 x0 x1 x2 x3 x4)⟩,
    ⟨r2_25, k2_pay134 (k2_pay211 x0 x1 x2 x3 x4)⟩,
    ⟨r2_23, k2_pay122 (k2_pay209 x0 x1 x2 x3 x4)⟩,
    ⟨r2_21, k2_pay113 (k2_pay206 x0 x1 x2 x3 x4) (k2_pay207 x0 x1 x2 x3 x4)⟩,
    ⟨r2_19, k2_pay102 (k2_pay200 x0 x1 x2 x3 x4) (k2_pay201 x0 x1 x2 x3 x4)⟩,
    ⟨r2_17, k2_pay92 (k2_pay91 (k2_pay197 x0 x1 x2 x3 x4) (k2_pay198 x0 x1 x2 x3 x4) (View.ld x2 r2_18)) (Scalar.ofBits .f32 0xC2FE0000#32) (Scalar.ofBits .f32 0x42FE0000#32)⟩,
    ⟨r2_15, k2_pay82 (k2_pay75 (k2_pay170 x0 x1 x2 x3 x4) (View.ld x1 r2_15) (View.ld x2 r2_16)) (k2_pay194 x0 x1 x2 x3 x4) (k2_pay195 x0 x1 x2 x3 x4) (k2_pay196 x0 x1 x2 x3 x4)⟩,
    ⟨r2_13, k2_pay71 (k2_pay191 x0 x1 x2 x3 x4)⟩,
    ⟨r2_11, k2_pay62 (k2_pay189 x0 x1 x2 x3 x4)⟩,
    ⟨r2_9, k2_pay49 (k2_pay184 x0 x1 x2 x3 x4)⟩,
    ⟨r2_7, k2_pay38 (k2_pay179 x0 x1 x2 x3 x4) (k2_pay181 x0 x1 x2 x3 x4)⟩,
    ⟨r2_5, k2_pay28 (k2_pay176 x0 x1 x2 x3 x4) (k2_pay177 x0 x1 x2 x3 x4)⟩,
    ⟨r2_3, k2_pay19 (k2_pay18 (k2_pay174 x0 x1 x2 x3 x4) (View.ld x1 r2_3) (View.ld x2 r2_4))⟩,
    ⟨r2_1, k2_pay10 (k2_pay4 (View.ld x0 r2_0) (View.ld x1 r2_1) (View.ld x2 r2_2)) (k2_pay172 x0 x1 x2 x3 x4) (k2_pay173 x0 x1 x2 x3 x4)⟩]

/-- Its stores tile the buffer (checked by evaluation), so they cover it. -/
theorem cover2_6 (p0 : Vec F S256x128 .i8) (p1 : Vec F S256x128 .i8) (p2 : Vec F S256x128 .i8) (p3 : Vec F S256x128 .i8) (p4 : Vec F S256x128 .i8) (p5 : Vec F S256x128 .i8) (p6 : Vec F S256x128 .i8) (p7 : Vec F S256x128 .i8) (p8 : Vec F S256x128 .i8) (p9 : Vec F S256x128 .i8) (p10 : Vec F S256x128 .i8) (p11 : Vec F S256x128 .i8) (p12 : Vec F S256x128 .i8) (p13 : Vec F S256x128 .i8) (p14 : Vec F S256x128 .i8) (p15 : Vec F S256x128 .i8) (y : S256x2048.Idx) :
    ∃ pc ∈ ([⟨r2_31, p0⟩, ⟨r2_29, p1⟩, ⟨r2_27, p2⟩, ⟨r2_25, p3⟩, ⟨r2_23, p4⟩, ⟨r2_21, p5⟩, ⟨r2_19, p6⟩, ⟨r2_17, p7⟩, ⟨r2_15, p8⟩, ⟨r2_13, p9⟩, ⟨r2_11, p10⟩, ⟨r2_9, p11⟩, ⟨r2_7, p12⟩, ⟨r2_5, p13⟩, ⟨r2_3, p14⟩, ⟨r2_1, p15⟩] : List (View.Piece (Elt F) S256x2048 .i8)), y ∈ pc.1.set :=
  View.cover_of_tiled [⟨r2_31, p0⟩, ⟨r2_29, p1⟩, ⟨r2_27, p2⟩, ⟨r2_25, p3⟩, ⟨r2_23, p4⟩, ⟨r2_21, p5⟩, ⟨r2_19, p6⟩, ⟨r2_17, p7⟩, ⟨r2_15, p8⟩, ⟨r2_13, p9⟩, ⟨r2_11, p10⟩, ⟨r2_9, p11⟩, ⟨r2_7, p12⟩, ⟨r2_5, p13⟩, ⟨r2_3, p14⟩, ⟨r2_1, p15⟩] S256x128.size (by rfl) y

/-- Window 7's staging buffer after the body, from the input windows' blocks: its 16 stores as pieces, LAST
    FIRST (Lib/Pipeline/FrameBody.lean `View.canon`; the payloads are the skeleton's and the values stated above). -/
def out2_7 (x0 : Vec F S2048x256 .f32) (x1 : Vec F S256x2048 .i8) (x2 : Vec F S256x16 .f32) (x3 : Vec F S256x2048 .i8) (x4 : Vec F S256x16 .f32) : Vec F S256x16 .f32 :=
  View.canon [⟨r2_32, k2_pay163 (k2_pay220 x0 x1 x2 x3 x4) (k2_pay221 x0 x1 x2 x3 x4)⟩,
    ⟨r2_30, k2_pay154 (k2_pay217 x0 x1 x2 x3 x4) (k2_pay218 x0 x1 x2 x3 x4) (k2_pay219 x0 x1 x2 x3 x4)⟩,
    ⟨r2_28, k2_pay142 (k2_pay214 x0 x1 x2 x3 x4)⟩,
    ⟨r2_26, k2_pay133 (k2_pay211 x0 x1 x2 x3 x4)⟩,
    ⟨r2_24, k2_pay121 (k2_pay209 x0 x1 x2 x3 x4)⟩,
    ⟨r2_22, k2_pay112 (k2_pay206 x0 x1 x2 x3 x4) (k2_pay207 x0 x1 x2 x3 x4)⟩,
    ⟨r2_20, k2_pay101 (k2_pay200 x0 x1 x2 x3 x4) (k2_pay201 x0 x1 x2 x3 x4)⟩,
    ⟨r2_18, k2_pay90 (k2_pay197 x0 x1 x2 x3 x4) (k2_pay198 x0 x1 x2 x3 x4) (View.ld x2 r2_18)⟩,
    ⟨r2_16, k2_pay81 (k2_pay194 x0 x1 x2 x3 x4) (k2_pay195 x0 x1 x2 x3 x4) (k2_pay196 x0 x1 x2 x3 x4)⟩,
    ⟨r2_14, k2_pay70 (k2_pay191 x0 x1 x2 x3 x4)⟩,
    ⟨r2_12, k2_pay61 (k2_pay189 x0 x1 x2 x3 x4)⟩,
    ⟨r2_10, k2_pay48 (k2_pay184 x0 x1 x2 x3 x4)⟩,
    ⟨r2_8, k2_pay37 (k2_pay179 x0 x1 x2 x3 x4) (k2_pay181 x0 x1 x2 x3 x4)⟩,
    ⟨r2_6, k2_pay27 (k2_pay176 x0 x1 x2 x3 x4) (k2_pay177 x0 x1 x2 x3 x4)⟩,
    ⟨r2_4, k2_pay17 (k2_pay174 x0 x1 x2 x3 x4) (View.ld x1 r2_3) (View.ld x2 r2_4)⟩,
    ⟨r2_2, k2_pay9 (k2_pay172 x0 x1 x2 x3 x4) (k2_pay173 x0 x1 x2 x3 x4)⟩]

/-- Its stores tile the buffer (checked by evaluation), so they cover it. -/
theorem cover2_7 (p0 : Vec F S256x1 .f32) (p1 : Vec F S256x1 .f32) (p2 : Vec F S256x1 .f32) (p3 : Vec F S256x1 .f32) (p4 : Vec F S256x1 .f32) (p5 : Vec F S256x1 .f32) (p6 : Vec F S256x1 .f32) (p7 : Vec F S256x1 .f32) (p8 : Vec F S256x1 .f32) (p9 : Vec F S256x1 .f32) (p10 : Vec F S256x1 .f32) (p11 : Vec F S256x1 .f32) (p12 : Vec F S256x1 .f32) (p13 : Vec F S256x1 .f32) (p14 : Vec F S256x1 .f32) (p15 : Vec F S256x1 .f32) (y : S256x16.Idx) :
    ∃ pc ∈ ([⟨r2_32, p0⟩, ⟨r2_30, p1⟩, ⟨r2_28, p2⟩, ⟨r2_26, p3⟩, ⟨r2_24, p4⟩, ⟨r2_22, p5⟩, ⟨r2_20, p6⟩, ⟨r2_18, p7⟩, ⟨r2_16, p8⟩, ⟨r2_14, p9⟩, ⟨r2_12, p10⟩, ⟨r2_10, p11⟩, ⟨r2_8, p12⟩, ⟨r2_6, p13⟩, ⟨r2_4, p14⟩, ⟨r2_2, p15⟩] : List (View.Piece (Elt F) S256x16 .f32)), y ∈ pc.1.set :=
  View.cover_of_tiled [⟨r2_32, p0⟩, ⟨r2_30, p1⟩, ⟨r2_28, p2⟩, ⟨r2_26, p3⟩, ⟨r2_24, p4⟩, ⟨r2_22, p5⟩, ⟨r2_20, p6⟩, ⟨r2_18, p7⟩, ⟨r2_16, p8⟩, ⟨r2_14, p9⟩, ⟨r2_12, p10⟩, ⟨r2_10, p11⟩, ⟨r2_8, p12⟩, ⟨r2_6, p13⟩, ⟨r2_4, p14⟩, ⟨r2_2, p15⟩] S256x1.size (by rfl) y

/-- Window 8's staging buffer after the body, from the input windows' blocks: its 16 stores as pieces, LAST
    FIRST (Lib/Pipeline/FrameBody.lean `View.canon`; the payloads are the skeleton's and the values stated above). -/
def out2_8 (x0 : Vec F S2048x256 .f32) (x1 : Vec F S256x2048 .i8) (x2 : Vec F S256x16 .f32) (x3 : Vec F S256x2048 .i8) (x4 : Vec F S256x16 .f32) : Vec F S256x2048 .i8 :=
  View.canon [⟨r2_31, k2_pay1 (k2_pay168 (k2_pay222 x0 x1 x2 x3 x4)) (k2_pay169 (F := F))⟩,
    ⟨r2_29, k2_pay157 (k2_pay216 x0 x1 x2 x3 x4)⟩,
    ⟨r2_27, k2_pay145 (k2_pay213 x0 x1 x2 x3 x4)⟩,
    ⟨r2_25, k2_pay136 (k2_pay212 x0 x1 x2 x3 x4)⟩,
    ⟨r2_23, k2_pay125 (k2_pay210 x0 x1 x2 x3 x4) (k2_pay124 (k2_pay210 x0 x1 x2 x3 x4))⟩,
    ⟨r2_21, k2_pay116 (k2_pay110 (k2_pay204 x0 x1 x2 x3 x4) (k2_pay205 x0 x1 x2 x3 x4)) (k2_pay208 x0 x1 x2 x3 x4) (Scalar.ofBits .f32 0x00000000#32)⟩,
    ⟨r2_19, k2_pay104 (k2_pay203 x0 x1 x2 x3 x4)⟩,
    ⟨r2_17, k2_pay94 (k2_pay199 x0 x1 x2 x3 x4)⟩,
    ⟨r2_15, k2_pay84 (k2_pay193 x0 x1 x2 x3 x4)⟩,
    ⟨r2_13, k2_pay73 (k2_pay192 x0 x1 x2 x3 x4)⟩,
    ⟨r2_11, k2_pay65 (Scalar.ofBits .f32 0x42FE0000#32) (k2_pay64 (k2_pay190 x0 x1 x2 x3 x4))⟩,
    ⟨r2_9, k2_pay54 (k2_pay46 (k2_pay183 x0 x1 x2 x3 x4) (k2_pay185 x0 x1 x2 x3 x4) (k2_pay186 x0 x1 x2 x3 x4)) (k2_pay187 x0 x1 x2 x3 x4) (k2_pay188 x0 x1 x2 x3 x4) (Scalar.ofBits .f32 0x3F800000#32)⟩,
    ⟨r2_7, k2_pay41 (k2_pay35 (k2_pay179 x0 x1 x2 x3 x4) (k2_pay180 x0 x1 x2 x3 x4)) (k2_pay182 x0 x1 x2 x3 x4)⟩,
    ⟨r2_5, k2_pay30 (k2_pay178 x0 x1 x2 x3 x4)⟩,
    ⟨r2_3, k2_pay21 (k2_pay175 x0 x1 x2 x3 x4)⟩,
    ⟨r2_1, k2_pay12 (k2_pay171 x0 x1 x2 x3 x4)⟩]

/-- Its stores tile the buffer (checked by evaluation), so they cover it. -/
theorem cover2_8 (p0 : Vec F S256x128 .i8) (p1 : Vec F S256x128 .i8) (p2 : Vec F S256x128 .i8) (p3 : Vec F S256x128 .i8) (p4 : Vec F S256x128 .i8) (p5 : Vec F S256x128 .i8) (p6 : Vec F S256x128 .i8) (p7 : Vec F S256x128 .i8) (p8 : Vec F S256x128 .i8) (p9 : Vec F S256x128 .i8) (p10 : Vec F S256x128 .i8) (p11 : Vec F S256x128 .i8) (p12 : Vec F S256x128 .i8) (p13 : Vec F S256x128 .i8) (p14 : Vec F S256x128 .i8) (p15 : Vec F S256x128 .i8) (y : S256x2048.Idx) :
    ∃ pc ∈ ([⟨r2_31, p0⟩, ⟨r2_29, p1⟩, ⟨r2_27, p2⟩, ⟨r2_25, p3⟩, ⟨r2_23, p4⟩, ⟨r2_21, p5⟩, ⟨r2_19, p6⟩, ⟨r2_17, p7⟩, ⟨r2_15, p8⟩, ⟨r2_13, p9⟩, ⟨r2_11, p10⟩, ⟨r2_9, p11⟩, ⟨r2_7, p12⟩, ⟨r2_5, p13⟩, ⟨r2_3, p14⟩, ⟨r2_1, p15⟩] : List (View.Piece (Elt F) S256x2048 .i8)), y ∈ pc.1.set :=
  View.cover_of_tiled [⟨r2_31, p0⟩, ⟨r2_29, p1⟩, ⟨r2_27, p2⟩, ⟨r2_25, p3⟩, ⟨r2_23, p4⟩, ⟨r2_21, p5⟩, ⟨r2_19, p6⟩, ⟨r2_17, p7⟩, ⟨r2_15, p8⟩, ⟨r2_13, p9⟩, ⟨r2_11, p10⟩, ⟨r2_9, p11⟩, ⟨r2_7, p12⟩, ⟨r2_5, p13⟩, ⟨r2_3, p14⟩, ⟨r2_1, p15⟩] S256x128.size (by rfl) y

/-- Window 9's staging buffer after the body, from the input windows' blocks: its 16 stores as pieces, LAST
    FIRST (Lib/Pipeline/FrameBody.lean `View.canon`; the payloads are the skeleton's and the values stated above). -/
def out2_9 (x0 : Vec F S2048x256 .f32) (x1 : Vec F S256x2048 .i8) (x2 : Vec F S256x16 .f32) (x3 : Vec F S256x2048 .i8) (x4 : Vec F S256x16 .f32) : Vec F S256x16 .f32 :=
  View.canon [⟨r2_32, k2_pay167 (k2_pay222 x0 x1 x2 x3 x4)⟩,
    ⟨r2_30, k2_pay156 (k2_pay216 x0 x1 x2 x3 x4)⟩,
    ⟨r2_28, k2_pay144 (k2_pay213 x0 x1 x2 x3 x4)⟩,
    ⟨r2_26, k2_pay135 (k2_pay212 x0 x1 x2 x3 x4)⟩,
    ⟨r2_24, k2_pay123 (k2_pay210 x0 x1 x2 x3 x4)⟩,
    ⟨r2_22, k2_pay115 (k2_pay208 x0 x1 x2 x3 x4) (Scalar.ofBits .f32 0x00000000#32)⟩,
    ⟨r2_20, k2_pay103 (k2_pay203 x0 x1 x2 x3 x4)⟩,
    ⟨r2_18, k2_pay93 (k2_pay199 x0 x1 x2 x3 x4)⟩,
    ⟨r2_16, k2_pay83 (k2_pay193 x0 x1 x2 x3 x4)⟩,
    ⟨r2_14, k2_pay72 (k2_pay192 x0 x1 x2 x3 x4)⟩,
    ⟨r2_12, k2_pay63 (k2_pay190 x0 x1 x2 x3 x4)⟩,
    ⟨r2_10, k2_pay53 (k2_pay187 x0 x1 x2 x3 x4) (k2_pay188 x0 x1 x2 x3 x4) (Scalar.ofBits .f32 0x3F800000#32)⟩,
    ⟨r2_8, k2_pay40 (k2_pay182 x0 x1 x2 x3 x4)⟩,
    ⟨r2_6, k2_pay29 (k2_pay178 x0 x1 x2 x3 x4)⟩,
    ⟨r2_4, k2_pay20 (k2_pay175 x0 x1 x2 x3 x4)⟩,
    ⟨r2_2, k2_pay11 (k2_pay171 x0 x1 x2 x3 x4)⟩]

/-- Its stores tile the buffer (checked by evaluation), so they cover it. -/
theorem cover2_9 (p0 : Vec F S256x1 .f32) (p1 : Vec F S256x1 .f32) (p2 : Vec F S256x1 .f32) (p3 : Vec F S256x1 .f32) (p4 : Vec F S256x1 .f32) (p5 : Vec F S256x1 .f32) (p6 : Vec F S256x1 .f32) (p7 : Vec F S256x1 .f32) (p8 : Vec F S256x1 .f32) (p9 : Vec F S256x1 .f32) (p10 : Vec F S256x1 .f32) (p11 : Vec F S256x1 .f32) (p12 : Vec F S256x1 .f32) (p13 : Vec F S256x1 .f32) (p14 : Vec F S256x1 .f32) (p15 : Vec F S256x1 .f32) (y : S256x16.Idx) :
    ∃ pc ∈ ([⟨r2_32, p0⟩, ⟨r2_30, p1⟩, ⟨r2_28, p2⟩, ⟨r2_26, p3⟩, ⟨r2_24, p4⟩, ⟨r2_22, p5⟩, ⟨r2_20, p6⟩, ⟨r2_18, p7⟩, ⟨r2_16, p8⟩, ⟨r2_14, p9⟩, ⟨r2_12, p10⟩, ⟨r2_10, p11⟩, ⟨r2_8, p12⟩, ⟨r2_6, p13⟩, ⟨r2_4, p14⟩, ⟨r2_2, p15⟩] : List (View.Piece (Elt F) S256x16 .f32)), y ∈ pc.1.set :=
  View.cover_of_tiled [⟨r2_32, p0⟩, ⟨r2_30, p1⟩, ⟨r2_28, p2⟩, ⟨r2_26, p3⟩, ⟨r2_24, p4⟩, ⟨r2_22, p5⟩, ⟨r2_20, p6⟩, ⟨r2_18, p7⟩, ⟨r2_16, p8⟩, ⟨r2_14, p9⟩, ⟨r2_12, p10⟩, ⟨r2_10, p11⟩, ⟨r2_8, p12⟩, ⟨r2_6, p13⟩, ⟨r2_4, p14⟩, ⟨r2_2, p15⟩] S256x1.size (by rfl) y

/-! ## The body's triple -/

set_option maxHeartbeats 1292000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (arg0 : Memref sig .tc .vmem S2048x256 .f32) (harg0 : arg0.IsWhole) (arg1 : Memref sig .tc .vmem S256x2048 .i8) (harg1 : arg1.IsWhole) (arg2 : Memref sig .tc .vmem S256x16 .f32) (harg2 : arg2.IsWhole) (arg3 : Memref sig .tc .vmem S256x2048 .i8) (harg3 : arg3.IsWhole) (arg4 : Memref sig .tc .vmem S256x16 .f32) (harg4 : arg4.IsWhole) (arg5 : Memref sig .tc .vmem S256x2048 .f32) (harg5 : arg5.IsWhole) (arg6 : Memref sig .tc .vmem S256x2048 .i8) (harg6 : arg6.IsWhole) (arg7 : Memref sig .tc .vmem S256x16 .f32) (harg7 : arg7.IsWhole) (arg8 : Memref sig .tc .vmem S256x2048 .i8) (harg8 : arg8.IsWhole) (arg9 : Memref sig .tc .vmem S256x16 .f32) (harg9 : arg9.IsWhole)
    (x0 : Vec F S2048x256 .f32) (x1 : Vec F S256x2048 .i8) (x2 : Vec F S256x16 .f32) (x3 : Vec F S256x2048 .i8) (x4 : Vec F S256x16 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4) ∗ owns (c : Thread nD τ) arg6 fullShare (out2_6 x0 x1 x2 x3 x4) ∗ owns (c : Thread nD τ) arg7 fullShare (out2_7 x0 x1 x2 x3 x4) ∗ owns (c : Thread nD τ) arg8 fullShare (out2_8 x0 x1 x2 x3 x4) ∗ owns (c : Thread nD τ) arg9 fullShare (out2_9 x0 x1 x2 x3 x4)) -∗ K ⟨⟩))
      ⊢ wp frame (wpE (defs₀ (F := F)) Variants.none c none) E (cc2_adam arg0 harg0 arg1 harg1 arg2 harg2 arg3 harg3 arg4 harg4 arg5 harg5 arg6 harg6 arg7 harg7 arg8 harg8 arg9 harg9) K := by
  simp only [cc2_adam_eq_skeleton]; unfold cc2_adam_skel
  simp only [k2_part30_eq_skeleton, k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton, k2_part18_eq_skeleton, k2_part19_eq_skeleton, k2_part20_eq_skeleton, k2_part21_eq_skeleton, k2_part22_eq_skeleton, k2_part23_eq_skeleton, k2_part24_eq_skeleton, k2_part25_eq_skeleton, k2_part26_eq_skeleton, k2_part27_eq_skeleton, k2_part28_eq_skeleton, k2_part29_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover2_5 _ _ _ _ _ _ _ _ _ _ _ _ _ _ _ _)).trans ?_
    rfl
  isplitl [H6]
  · iexists _; isplitr
    swap; · iexact H6
    ipureintro
    refine (View.read_writes_eq_canon _ _ _ (cover2_6 _ _ _ _ _ _ _ _ _ _ _ _ _ _ _ _)).trans ?_
    rfl
  isplitl [H7]
  · iexists _; isplitr
    swap; · iexact H7
    ipureintro
    refine (View.read_writes_eq_canon _ _ _ (cover2_7 _ _ _ _ _ _ _ _ _ _ _ _ _ _ _ _)).trans ?_
    rfl
  isplitl [H8]
  · iexists _; isplitr
    swap; · iexact H8
    ipureintro
    refine (View.read_writes_eq_canon _ _ _ (cover2_8 _ _ _ _ _ _ _ _ _ _ _ _ _ _ _ _)).trans ?_
    rfl
  iexists _; isplitr
  swap; · iexact H9
  ipureintro
  refine (View.read_writes_eq_canon _ _ _ (cover2_9 _ _ _ _ _ _ _ _ _ _ _ _ _ _ _ _)).trans ?_
  rfl

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
    | ⟨6, _⟩ => out2_6 (iblk2 V c 0 t) (iblk2 V c 1 t) (iblk2 V c 2 t) (iblk2 V c 3 t) (iblk2 V c 4 t)
    | ⟨7, _⟩ => out2_7 (iblk2 V c 0 t) (iblk2 V c 1 t) (iblk2 V c 2 t) (iblk2 V c 3 t) (iblk2 V c 4 t)
    | ⟨8, _⟩ => out2_8 (iblk2 V c 0 t) (iblk2 V c 1 t) (iblk2 V c 2 t) (iblk2 V c 3 t) (iblk2 V c 4 t)
    | ⟨9, _⟩ => out2_9 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
/-- What window 1 of the Adam call holds after a grid point. -/
theorem after2_1 (c : Dev nD) (t : Fin cfg2.N) : (dat2 V c).after 1 t = iblk2 V c 1 t := by dsimp only [dat2]
/-- What window 2 of the Adam call holds after a grid point. -/
theorem after2_2 (c : Dev nD) (t : Fin cfg2.N) : (dat2 V c).after 2 t = iblk2 V c 2 t := by dsimp only [dat2]
/-- What window 3 of the Adam call holds after a grid point. -/
theorem after2_3 (c : Dev nD) (t : Fin cfg2.N) : (dat2 V c).after 3 t = iblk2 V c 3 t := by dsimp only [dat2]
/-- What window 4 of the Adam call holds after a grid point. -/
theorem after2_4 (c : Dev nD) (t : Fin cfg2.N) : (dat2 V c).after 4 t = iblk2 V c 4 t := by dsimp only [dat2]
/-- What window 5 of the Adam call holds after a grid point. -/
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]
/-- What window 6 of the Adam call holds after a grid point. -/
theorem after2_6 (c : Dev nD) (t : Fin cfg2.N) : (dat2 V c).after 6 t = out2_6 (iblk2 V c 0 t) (iblk2 V c 1 t) (iblk2 V c 2 t) (iblk2 V c 3 t) (iblk2 V c 4 t) := by dsimp only [dat2]
/-- What window 7 of the Adam call holds after a grid point. -/
theorem after2_7 (c : Dev nD) (t : Fin cfg2.N) : (dat2 V c).after 7 t = out2_7 (iblk2 V c 0 t) (iblk2 V c 1 t) (iblk2 V c 2 t) (iblk2 V c 3 t) (iblk2 V c 4 t) := by dsimp only [dat2]
/-- What window 8 of the Adam call holds after a grid point. -/
theorem after2_8 (c : Dev nD) (t : Fin cfg2.N) : (dat2 V c).after 8 t = out2_8 (iblk2 V c 0 t) (iblk2 V c 1 t) (iblk2 V c 2 t) (iblk2 V c 3 t) (iblk2 V c 4 t) := by dsimp only [dat2]
/-- What window 9 of the Adam call holds after a grid point. -/
theorem after2_9 (c : Dev nD) (t : Fin cfg2.N) : (dat2 V c).after 9 t = out2_9 (iblk2 V c 0 t) (iblk2 V c 1 t) (iblk2 V c 2 t) (iblk2 V c 3 t) (iblk2 V c 4 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
/-- Window 1 of the Adam call holds its block before a grid point. -/
theorem before2_1 (c : Dev nD) (t : Fin cfg2.N) (d) : (dat2 V c).before 1 t d = iblk2 V c 1 t :=
  before2_1_of V (dat2 V c) (A_eq2 V c 1) (after2_1 V c) t d
/-- Window 2 of the Adam call holds its block before a grid point. -/
theorem before2_2 (c : Dev nD) (t : Fin cfg2.N) (d) : (dat2 V c).before 2 t d = iblk2 V c 2 t :=
  before2_2_of V (dat2 V c) (A_eq2 V c 2) (after2_2 V c) t d
/-- Window 3 of the Adam call holds its block before a grid point. -/
theorem before2_3 (c : Dev nD) (t : Fin cfg2.N) (d) : (dat2 V c).before 3 t d = iblk2 V c 3 t :=
  before2_3_of V (dat2 V c) (A_eq2 V c 3) (after2_3 V c) t d
/-- Window 4 of the Adam call holds its block before a grid point. -/
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.Kernel.Run

end
-- ==== Proof.K.Region3.lean ====
/- The weight-update call as one region: what its body leaves, the proof data of its pipeline and the body obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 3 of @main: custom_call 3, `cc3_update` (pipeline 3), at the entry contents `V` -/

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S256x256 := Rect.unit (s := S256x256) ![0, 0] S256x256.size inb_S256x256_S256x256_0_0
abbrev r3_1 : Rect S256x2048 := Rect.unit (s := S256x2048) ![0, 0] S256x2048.size inb_S256x2048_S256x2048_0_0
abbrev r3_2 : Rect S256x1 := Rect.unit (s := S256x1) ![0, 0] S256x1.size inb_S256x1_S256x1_0_0

/-! ## What the body leaves in each output window's buffer -/

/-- Window 5's staging buffer after the body, from the input windows' blocks: its 1 store as pieces, LAST
    FIRST (Lib/Pipeline/FrameBody.lean `View.canon`; the payloads are the skeleton's). -/
def out3_5 (x0 : Vec F S256x256 .bf16) (x1 : Vec F S256x2048 .f32) (x2 : Vec F S256x2048 .i8) (x3 : Vec F S256x1 .f32) (x4 : Vec F S256x2048 .i8) : Vec F S256x2048 .i8 :=
  View.canon [⟨r3_1, k3_pay1 (k3_pay5 (View.ld x0 r3_0) (View.ld x1 r3_1) (View.ld x2 r3_1) (View.ld x3 r3_2) (View.ld x4 r3_1)) (Scalar.ofBits .f32 0xC2FE0000#32)⟩]

/-- Its stores tile the buffer (checked by evaluation), so they cover it. -/
theorem cover3_5 (p0 : Vec F S256x2048 .i8) (y : S256x2048.Idx) :
    ∃ pc ∈ ([⟨r3_1, p0⟩] : List (View.Piece (Elt F) S256x2048 .i8)), y ∈ pc.1.set :=
  View.cover_of_tiled [⟨r3_1, p0⟩] S256x2048.size (by rfl) y

/-- Window 6's staging buffer after the body, from the input windows' blocks: its 1 store as pieces, LAST
    FIRST (Lib/Pipeline/FrameBody.lean `View.canon`; the payloads are the skeleton's). -/
def out3_6 (x0 : Vec F S256x256 .bf16) (x1 : Vec F S256x2048 .f32) (x2 : Vec F S256x2048 .i8) (x3 : Vec F S256x1 .f32) (x4 : Vec F S256x2048 .i8) : Vec F S256x1 .f32 :=
  View.canon [⟨r3_2, k3_pay4 (View.ld x0 r3_0) (View.ld x1 r3_1) (View.ld x2 r3_1) (View.ld x3 r3_2)⟩]

/-- Its stores tile the buffer (checked by evaluation), so they cover it. -/
theorem cover3_6 (p0 : Vec F S256x1 .f32) (y : S256x1.Idx) :
    ∃ pc ∈ ([⟨r3_2, p0⟩] : List (View.Piece (Elt F) S256x1 .f32)), y ∈ pc.1.set :=
  View.cover_of_tiled [⟨r3_2, p0⟩] S256x1.size (by rfl) y

/-- Window 7's staging buffer after the body, from the input windows' blocks: its 1 store as pieces, LAST
    FIRST (Lib/Pipeline/FrameBody.lean `View.canon`; the payloads are the skeleton's). -/
def out3_7 (x0 : Vec F S256x256 .bf16) (x1 : Vec F S256x2048 .f32) (x2 : Vec F S256x2048 .i8) (x3 : Vec F S256x1 .f32) (x4 : Vec F S256x2048 .i8) : Vec F S256x2048 .f32 :=
  View.canon [⟨r3_1, k3_pay2 (View.ld x0 r3_0) (View.ld x1 r3_1)⟩]

/-- Its stores tile the buffer (checked by evaluation), so they cover it. -/
theorem cover3_7 (p0 : Vec F S256x2048 .f32) (y : S256x2048.Idx) :
    ∃ pc ∈ ([⟨r3_1, p0⟩] : List (View.Piece (Elt F) S256x2048 .f32)), y ∈ pc.1.set :=
  View.cover_of_tiled [⟨r3_1, p0⟩] S256x2048.size (by rfl) y

/-! ## The body's triple -/

set_option maxHeartbeats 1000000 in
/-- The kernel body on whole staging memrefs, the inputs' at read contents `xW` and the outputs' at anything, runs to
    the continuation holding the inputs' as they were and each output's at `out3_W` of the inputs': the printed functions
    are their skeletons (`Gen.*_eq_skeleton`), which `sl_exec` runs (Lib/Exec.lean), through every part call. -/
theorem sound_kernel3 (c : Dev nD) (E : Set ℕ) (i : grid3.Coords) (arg1 : Memref sig .tc .vmem S256x256 .bf16) (harg1 : arg1.IsWhole) (arg2 : Memref sig .tc .vmem S256x2048 .f32) (harg2 : arg2.IsWhole) (arg3 : Memref sig .tc .vmem S256x2048 .i8) (harg3 : arg3.IsWhole) (arg4 : Memref sig .tc .vmem S256x1 .f32) (harg4 : arg4.IsWhole) (arg5 : Memref sig .tc .vmem S256x2048 .i8) (harg5 : arg5.IsWhole) (arg6 : Memref sig .tc .vmem S256x2048 .i8) (harg6 : arg6.IsWhole) (arg7 : Memref sig .tc .vmem S256x1 .f32) (harg7 : arg7.IsWhole) (arg8 : Memref sig .tc .vmem S256x2048 .f32) (harg8 : arg8.IsWhole)
    (x0 : Vec F S256x256 .bf16) (x1 : Vec F S256x2048 .f32) (x2 : Vec F S256x2048 .i8) (x3 : Vec F S256x1 .f32) (x4 : Vec F S256x2048 .i8) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4) ∗ owns (c : Thread nD τ) arg7 fullShare (out3_6 x0 x1 x2 x3 x4) ∗ owns (c : Thread nD τ) arg8 fullShare (out3_7 x0 x1 x2 x3 x4)) -∗ K ⟨⟩))
      ⊢ wp frame (wpE (defs₀ (F := F)) Variants.none c none) E (cc3_update i arg1 harg1 arg2 harg2 arg3 harg3 arg4 harg4 arg5 harg5 arg6 harg6 arg7 harg7 arg8 harg8) K := by
  simp only [cc3_update_eq_skeleton]; unfold cc3_update_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover3_5 _)
  isplitl [H6]
  · iexists _; isplitr
    swap; · iexact H6
    ipureintro
    exact View.read_writes_eq_canon _ _ _ (cover3_6 _)
  iexists _; isplitr
  swap; · iexact H7
  ipureintro
  exact View.read_writes_eq_canon _ _ _ (cover3_7 _)

/-! ## The pipeline's proof data -/

/-- The proof data of pipeline 3 on core `c`: the arrays as the region finds them (`V`); after the body at
    point `t` each input's buffer at its block and each output's at `out3_W` of the input blocks; the invariant the
    class's (Lib/Pipeline/Frame.lean `ΦA`: the scoped rest and the generator register, untouched); nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
    | ⟨6, _⟩ => out3_6 (iblk3 V c 0 t) (iblk3 V c 1 t) (iblk3 V c 2 t) (iblk3 V c 3 t) (iblk3 V c 4 t)
    | ⟨7, _⟩ => out3_7 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`, never `rfl`: Lib/Pipeline.lean `Dat`). -/
theorem after3_0 (c : Dev nD) (t : Fin cfg3.N) : (dat3 V c).after 0 t = iblk3 V c 0 t := by dsimp only [dat3]
/-- What window 1 of the update call holds after a grid point. -/
theorem after3_1 (c : Dev nD) (t : Fin cfg3.N) : (dat3 V c).after 1 t = iblk3 V c 1 t := by dsimp only [dat3]
/-- What window 2 of the update call holds after a grid point. -/
theorem after3_2 (c : Dev nD) (t : Fin cfg3.N) : (dat3 V c).after 2 t = iblk3 V c 2 t := by dsimp only [dat3]
/-- What window 3 of the update call holds after a grid point. -/
theorem after3_3 (c : Dev nD) (t : Fin cfg3.N) : (dat3 V c).after 3 t = iblk3 V c 3 t := by dsimp only [dat3]
/-- What window 4 of the update call holds after a grid point. -/
theorem after3_4 (c : Dev nD) (t : Fin cfg3.N) : (dat3 V c).after 4 t = iblk3 V c 4 t := by dsimp only [dat3]
/-- What window 5 of the update call holds after a grid point. -/
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]
/-- What window 6 of the update call holds after a grid point. -/
theorem after3_6 (c : Dev nD) (t : Fin cfg3.N) : (dat3 V c).after 6 t = out3_6 (iblk3 V c 0 t) (iblk3 V c 1 t) (iblk3 V c 2 t) (iblk3 V c 3 t) (iblk3 V c 4 t) := by dsimp only [dat3]
/-- What window 7 of the update call holds after a grid point. -/
theorem after3_7 (c : Dev nD) (t : Fin cfg3.N) : (dat3 V c).after 7 t = out3_7 (iblk3 V c 0 t) (iblk3 V c 1 t) (iblk3 V c 2 t) (iblk3 V c 3 t) (iblk3 V c 4 t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
/-- Window 1 of the update call holds its block before a grid point. -/
theorem before3_1 (c : Dev nD) (t : Fin cfg3.N) (d) : (dat3 V c).before 1 t d = iblk3 V c 1 t :=
  before3_1_of V (dat3 V c) (A_eq3 V c 1) (after3_1 V c) t d
/-- Window 2 of the update call holds its block before a grid point. -/
theorem before3_2 (c : Dev nD) (t : Fin cfg3.N) (d) : (dat3 V c).before 2 t d = iblk3 V c 2 t :=
  before3_2_of V (dat3 V c) (A_eq3 V c 2) (after3_2 V c) t d
/-- Window 3 of the update call holds its block before a grid point. -/
theorem before3_3 (c : Dev nD) (t : Fin cfg3.N) (d) : (dat3 V c).before 3 t d = iblk3 V c 3 t :=
  before3_3_of V (dat3 V c) (A_eq3 V c 3) (after3_3 V c) t d
/-- Window 4 of the update call holds its block before a grid point. -/
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' memrefs hold their blocks (`before3_W`), so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ (grid3.coords t) _ _ _ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.Kernel.Run

end
-- ==== Proof.K.Hosts0.lean ====
/- The host stretches between the calls: the references each writes, none of them an argument. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v7]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_v9]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays (checked: each argument against each reference it writes). -/
theorem hostOps4_args : ∀ a ∈ argRefs, a ∉ hostOps4_W := ListAll.forall_mem_of_all_decide (by decide +kernel)

end Cert.Kernel.Run

end
-- ==== Proof.K.Fold0.lean ====
/- The buffer contents at every boundary between the host stretches and the calls, as a fold from the launch memory. -/
module

public import proofs.«01_k».proof.Proof.K.Region0
public import proofs.«01_k».proof.Proof.K.Region1
public import proofs.«01_k».proof.Proof.K.Region2
public import proofs.«01_k».proof.Proof.K.Region3
public import proofs.«01_k».proof.Proof.K.Hosts0

@[expose] public section

-- membership in a rectangle of production extents (`View.cover_of_tiled`): the elaborator's structural look
-- recurses once per coordinate of the long axes
set_option maxRecDepth 16384

noncomputable section

namespace Cert.Kernel.Run

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
/-- The arguments are as launched at the start. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The arguments are as launched after the first host operations. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
/-- After the decode call each of its windows' arrays holds what the call leaves in it. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- The decode call leaves every array that is not one of its windows' as it was. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- The arguments are as launched after the decode call. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- The decode call leaves every other array as it was. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`) (region 2's entry). -/
def W3 (c : Dev nD) : Valuation τ sig (Elt F) :=
  Pipeline.withArrays spec1 c (W2 m ρ c) fun w => (dat1 (V2 m ρ) c).arrAt w cfg1.N
/-- After the project call each of its windows' arrays holds what the call leaves in it. -/
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
/-- The project call leaves every array that is not one of its windows' as it was. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- The arguments are as launched after the project call. -/
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
/-- The project call leaves every other array as it was. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec2 c (W3 m ρ c) fun w => (dat2 (V3 m ρ) c).arrAt w cfg2.N
/-- After the Adam call each of its windows' arrays holds what the call leaves in it. -/
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
/-- The Adam call leaves every array that is not one of its windows' as it was. -/
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A reference that is none of region 2's OUTPUT arrays keeps its entry contents across it: an input window's
    array is never written back (`Dat.arrAt_in`, `A_eq2`); any other buffer is left as is. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
/-- The arguments are as launched after the Adam call. -/
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V3 m ρ) c).arrAt w cfg2.N = V4 m ρ c (Pipeline.arrRef spec2 w) :=
  (W4_arr m ρ c w).symm
/-- The Adam call leaves every other array as it was. -/
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After `hostOps3` (region 3's entry). -/
abbrev W5 : Dev nD → Valuation τ sig (Elt F) := fun c => StableHlo.after hostOps3 (W4 m ρ c)
/-- A reference `hostOps3` does not write keeps its contents across it. -/
theorem W5_of (c : Dev nD) (r : Ref sig .tc) (h : r ∉ hostOps3_W) : W5 m ρ c (Proc.devRef .tc r) = W4 m ρ c (Proc.devRef .tc r) :=
  StableHlo.after_of_writes_sub hostOps3 _ hostOps3_writes h
/-- The arguments are as launched after the reshape before the update call. -/
theorem W5_args (c : Dev nD) : ∀ a ∈ argRefs, W5 m ρ c (Proc.devRef .tc a) = m ((c : Thread nD τ).loc a) :=
  fun a ha => (W5_of m ρ c a (hostOps3_args a ha)).trans (W4_args m ρ c a ha)
/-- The same read at the TensorCore's references (what region 3's proof data take). -/
abbrev V5 : (c : Dev nD) → (b : Ref sig .tc) → Buf (Elt F) ((c : Thread nD τ).loc b) := fun c b => W5 m ρ c b
/-- At region 3's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec3 c (W5 m ρ c) fun w => (dat3 (V5 m ρ) c).arrAt w cfg3.N
/-- After the update call each of its windows' arrays holds what the call leaves in it. -/
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
/-- The update call leaves every array that is not one of its windows' as it was. -/
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
/-- A reference that is none of region 3's OUTPUT arrays keeps its entry contents across it: an input window's
    array is never written back (`Dat.arrAt_in`, `A_eq3`); any other buffer is left as is. -/
theorem W6_of (c : Dev nD) (r : Ref sig .tc) (h : ∀ w : Fin cfg3.W, Pipeline.arrRef spec3 w = r → (cfg3.win w).isOut = false) :
    W6 m ρ c (Proc.devRef .tc r) = W5 m ρ c (Proc.devRef .tc r) := by
  by_cases hw : ∃ w : Fin cfg3.W, Pipeline.arrRef spec3 w = r
  · obtain ⟨w, rfl⟩ := hw
    exact (W6_arr m ρ c w).trans (((dat3 (V5 m ρ) c).arrAt_in w (h w rfl) _).trans (A_eq3 (V5 m ρ) c w))
  · exact W6_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
/-- The arguments are as launched after the update call. -/
theorem W6_args (c : Dev nD) : ∀ a ∈ argRefs, W6 m ρ c (Proc.devRef .tc a) = m ((c : Thread nD τ).loc a) :=
  fun a ha => (W6_of m ρ c a (argsIn3 a ha)).trans (W5_args m ρ c a ha)
/-- The same read at the TensorCore's references (region 3's exit contents). -/
abbrev V6 : (c : Dev nD) → (b : Ref sig .tc) → Buf (Elt F) ((c : Thread nD τ).loc b) := fun c b => W6 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V5 m ρ) c).arrAt w cfg3.N = V6 m ρ c (Pipeline.arrRef spec3 w) :=
  (W6_arr m ρ c w).symm
/-- The update call leaves every other array as it was. -/
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-- After `hostOps4`. -/
abbrev W7 : Dev nD → Valuation τ sig (Elt F) := fun c => StableHlo.after hostOps4 (W6 m ρ c)
/-- A reference `hostOps4` does not write keeps its contents across it. -/
theorem W7_of (c : Dev nD) (r : Ref sig .tc) (h : r ∉ hostOps4_W) : W7 m ρ c (Proc.devRef .tc r) = W6 m ρ c (Proc.devRef .tc r) :=
  StableHlo.after_of_writes_sub hostOps4 _ hostOps4_writes h
/-- The arguments are as launched after the last reshape. -/
theorem W7_args (c : Dev nD) : ∀ a ∈ argRefs, W7 m ρ c (Proc.devRef .tc a) = m ((c : Thread nD τ).loc a) :=
  fun a ha => (W7_of m ρ c a (hostOps4_args a ha)).trans (W6_args m ρ c a ha)

/-! ### The arguments end as launched: no host stretch writes one and no region may change one (a region reads it
    through an input window or bypasses it) -/

/-- Argument 0 ends as launched. -/
theorem W7_main_arg0 (c : Dev nD) : W7 m ρ c (Proc.devRef .tc main_arg0) = m ((c : Thread nD τ).loc main_arg0) :=
  W7_args m ρ c main_arg0 (by decide)
/-- Argument 1 ends as launched. -/
theorem W7_main_arg1 (c : Dev nD) : W7 m ρ c (Proc.devRef .tc main_arg1) = m ((c : Thread nD τ).loc main_arg1) :=
  W7_args m ρ c main_arg1 (by decide)
/-- Argument 2 ends as launched. -/
theorem W7_main_arg2 (c : Dev nD) : W7 m ρ c (Proc.devRef .tc main_arg2) = m ((c : Thread nD τ).loc main_arg2) :=
  W7_args m ρ c main_arg2 (by decide)
/-- Argument 3 ends as launched. -/
theorem W7_main_arg3 (c : Dev nD) : W7 m ρ c (Proc.devRef .tc main_arg3) = m ((c : Thread nD τ).loc main_arg3) :=
  W7_args m ρ c main_arg3 (by decide)
/-- Argument 4 ends as launched. -/
theorem W7_main_arg4 (c : Dev nD) : W7 m ρ c (Proc.devRef .tc main_arg4) = m ((c : Thread nD τ).loc main_arg4) :=
  W7_args m ρ c main_arg4 (by decide)
/-- Argument 5 ends as launched. -/
theorem W7_main_arg5 (c : Dev nD) : W7 m ρ c (Proc.devRef .tc main_arg5) = m ((c : Thread nD τ).loc main_arg5) :=
  W7_args m ρ c main_arg5 (by decide)
/-- Argument 6 ends as launched. -/
theorem W7_main_arg6 (c : Dev nD) : W7 m ρ c (Proc.devRef .tc main_arg6) = m ((c : Thread nD τ).loc main_arg6) :=
  W7_args m ρ c main_arg6 (by decide)
/-- Argument 7 ends as launched. -/
theorem W7_main_arg7 (c : Dev nD) : W7 m ρ c (Proc.devRef .tc main_arg7) = m ((c : Thread nD τ).loc main_arg7) :=
  W7_args m ρ c main_arg7 (by decide)
/-- Argument 8 ends as launched. -/
theorem W7_main_arg8 (c : Dev nD) : W7 m ρ c (Proc.devRef .tc main_arg8) = m ((c : Thread nD τ).loc main_arg8) :=
  W7_args m ρ c main_arg8 (by decide)
/-- Argument 9 ends as launched. -/
theorem W7_main_arg9 (c : Dev nD) : W7 m ρ c (Proc.devRef .tc main_arg9) = m ((c : Thread nD τ).loc main_arg9) :=
  W7_args m ρ c main_arg9 (by decide)
/-- Argument 10 ends as launched. -/
theorem W7_main_arg10 (c : Dev nD) : W7 m ρ c (Proc.devRef .tc main_arg10) = m ((c : Thread nD τ).loc main_arg10) :=
  W7_args m ρ c main_arg10 (by decide)
end Cert.Kernel.Run

end
-- ==== Proof.K.State.lean ====
/- The proof data of the four pipelines and the state that is handed from one segment to the next. -/
module

public import proofs.«01_k».proof.Proof.K.Fold0

@[expose] public section

-- membership in a rectangle of production extents (`View.cover_of_tiled`): the elaborator's structural look
-- recurses once per coordinate of the long axes
set_option maxRecDepth 16384

noncomputable section

namespace Cert.Kernel.Run

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

end Cert.Kernel.Run

end
-- ==== Proof.K.Record0.lean ====
/- The decode call as a segment of the program. -/
module

public import proofs.«01_k».proof.Proof.K.State

@[expose] public section

-- membership in a rectangle of production extents (`View.cover_of_tiled`): the elaborator's structural look
-- recurses once per coordinate of the long axes
set_option maxRecDepth 16384

noncomputable section

namespace Cert.Kernel.Run

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.K.Record1.lean ====
/- The projection call as a segment of the program. -/
module

public import proofs.«01_k».proof.Proof.K.State

@[expose] public section

-- membership in a rectangle of production extents (`View.cover_of_tiled`): the elaborator's structural look
-- recurses once per coordinate of the long axes
set_option maxRecDepth 16384

noncomputable section

namespace Cert.Kernel.Run

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (Pipeline.ΦA spec1 c : sProp 𝕄) ⊢ (pdats m ρ 1 c).Φ 0 := hin1 (V2 m ρ) c
    unfold Pipeline.ΦA at h1
    iintro ⟨Hp, -, Hr⟩
    iapply h1
    isplitl [Hr]; · iexact Hr
    iexact Hp
  hout c := by
    rw [Pipeline.ownSems0_none]
    have h1 : (pdats m ρ 1 c).Φ (Fin.last _) ⊢ (Pipeline.ΦA spec1 c : sProp 𝕄) := hout1 (V2 m ρ) c
    unfold Pipeline.ΦA at h1
    iintro H
    ihave H' := h1 $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.K.Record2.lean ====
/- The moment-update call as a segment of the program. -/
module

public import proofs.«01_k».proof.Proof.K.State

@[expose] public section

-- membership in a rectangle of production extents (`View.cover_of_tiled`): the elaborator's structural look
-- recurses once per coordinate of the long axes
set_option maxRecDepth 16384

noncomputable section

namespace Cert.Kernel.Run

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.K.Record3.lean ====
/- The weight-update call as a segment of the program. -/
module

public import proofs.«01_k».proof.Proof.K.State

@[expose] public section

-- membership in a rectangle of production extents (`View.cover_of_tiled`): the elaborator's structural look
-- recurses once per coordinate of the long axes
set_option maxRecDepth 16384

noncomputable section

namespace Cert.Kernel.Run

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 3 (custom_call 3) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) (A_eq3 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.K.Frame.lean ====
/- The whole program as its seven segments, its run, and the frame claim. -/
module

public import proofs.«01_k».proof.Proof.K.Record0
public import proofs.«01_k».proof.Proof.K.Record1
public import proofs.«01_k».proof.Proof.K.Record2
public import proofs.«01_k».proof.Proof.K.Record3

@[expose] public section

-- membership in a rectangle of production extents (`View.cover_of_tiled`): the elaborator's structural look
-- recurses once per coordinate of the long axes
set_option maxRecDepth 16384

noncomputable section

namespace Cert.Kernel.Run

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 7 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)),
    .region (reg3 m ρ),
    .host (hseg hostOps4 hostOps4_sub hostOps4_fresh (W6 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution of the program terminates without a fault, every
    final state has every unscoped buffer at the last boundary's contents `W7`, and every semaphore counter is zero. -/
theorem run_main : θ_run defs (onTc (τ := τ) (main (F := F))) ⟨m, fun _ => 0, ρ⟩ (fun r => (∀ c : Dev nD, ∀ b ∈ Pipeline.ucRefs τ sig,
      r.2.mem (((c : Thread nD τ)).1, b) = W7 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

/-- THE FRAME: the argument arrays end as launched and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨(fun c =>
      ⟨(h.1 c _ (mem_uc main_arg0 (by decide))).trans (W7_main_arg0 m ρ c),
       (h.1 c _ (mem_uc main_arg1 (by decide))).trans (W7_main_arg1 m ρ c),
       (h.1 c _ (mem_uc main_arg2 (by decide))).trans (W7_main_arg2 m ρ c),
       (h.1 c _ (mem_uc main_arg3 (by decide))).trans (W7_main_arg3 m ρ c),
       (h.1 c _ (mem_uc main_arg4 (by decide))).trans (W7_main_arg4 m ρ c),
       (h.1 c _ (mem_uc main_arg5 (by decide))).trans (W7_main_arg5 m ρ c),
       (h.1 c _ (mem_uc main_arg6 (by decide))).trans (W7_main_arg6 m ρ c),
       (h.1 c _ (mem_uc main_arg7 (by decide))).trans (W7_main_arg7 m ρ c),
       (h.1 c _ (mem_uc main_arg8 (by decide))).trans (W7_main_arg8 m ρ c),
       (h.1 c _ (mem_uc main_arg9 (by decide))).trans (W7_main_arg9 m ρ c),
       (h.1 c _ (mem_uc main_arg10 (by decide))).trans (W7_main_arg10 m ρ c)⟩), h.2⟩) (run_main m ρ)

end Cert.Kernel.Run

end
-- ==== Proof.KI.Region0.lean ====
/- The decode call as one region: what its body leaves, the proof data of its pipeline and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_decode` (pipeline 0), at the entry contents `V` -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x128 := Rect.unit (s := S256x128) ![0, 0] S256x128.size inb_S256x128_S256x128_0_0
abbrev r0_1 : Rect S1x1x256 := Rect.unit (s := S1x1x256) ![0, 0, 0] S1x1x256.size inb_S1x1x256_S1x1x256_0_0_0
abbrev r0_2 : Rect S256x256 := Rect.unit (s := S256x256) ![0, 0] S256x256.size inb_S256x256_S256x256_0_0

/-! ## What the body leaves in each output window's buffer -/

/-- Window 2's staging buffer after the body, from the input windows' blocks: its 1 store as pieces, LAST
    FIRST (Lib/Pipeline/FrameBody.lean `View.canon`; the payloads are the skeleton's). -/
def out0_2 (x0 : Vec F S256x128 .i8) (x1 : Vec F S1x1x256 .f32) : Vec F S256x256 .bf16 :=
  View.canon [⟨r0_2, k0_pay1 (View.ld x0 r0_0) (View.ld x1 r0_1)⟩]

/-- Its stores tile the buffer (checked by evaluation), so they cover it. -/
theorem cover0_2 (p0 : Vec F S256x256 .bf16) (y : S256x256.Idx) :
    ∃ pc ∈ ([⟨r0_2, p0⟩] : List (View.Piece (Elt F) S256x256 .bf16)), y ∈ pc.1.set :=
  View.cover_of_tiled [⟨r0_2, p0⟩] S256x256.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x128 .i8) (harg1 : arg1.IsWhole) (arg2 : Memref sig .tc .vmem S1x1x256 .f32) (harg2 : arg2.IsWhole) (arg3 : Memref sig .tc .vmem S256x256 .bf16) (harg3 : arg3.IsWhole)
    (x0 : Vec F S256x128 .i8) (x1 : Vec F S1x1x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_decode i arg1 harg1 arg2 harg2 arg3 harg3) K := by
  simp only [cc0_decode_eq_skeleton]; unfold cc0_decode_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
/-- What window 1 of the decode call holds after a grid point. -/
theorem after0_1 (c : Dev nD) (t : Fin cfg0.N) : (dat0 V c).after 1 t = iblk0 V c 1 t := by dsimp only [dat0]
/-- What window 2 of the decode call holds after a grid point. -/
theorem after0_2 (c : Dev nD) (t : Fin cfg0.N) : (dat0 V c).after 2 t = out0_2 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
/-- Window 1 of the decode call holds its block before a grid point. -/
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Run

end
-- ==== Proof.KI.Region1.lean ====
/- The projection call as one region: the accumulator its body carries from step to step, the proof data of its pipeline
   and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.ValueKit.Acc

@[expose] public section

-- membership in a rectangle of production extents (`View.cover_of_tiled`): the elaborator's structural look
-- recurses once per coordinate of the long axes
set_option maxRecDepth 16384

noncomputable section

namespace Cert.KernelIdeal.Run

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # The projection call at the entry contents `V` -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 16). -/
theorem hcond1_0 : ∀ t : Fin cfg1.N, cond1_0 (grid1.coords t) ↔ t.val % 16 = 0 :=
  (fun t => by
    have ht : t.val < 64 := Nat.lt_of_lt_of_eq t.isLt N_1
    have e0 : (grid1.coords t 0).val = t.val / 16 % 4 := Pipeline.Grid.coords_val t 0 (by decide) rfl
    have e1 : (grid1.coords t 1).val = t.val / 1 % 16 := Pipeline.Grid.coords_val t 1 (by decide) rfl
    simp only [cond1_0, e0, e1]
    word_cmp
   : ∀ t : Fin grid1.N, cond1_0 (grid1.coords t) ↔ t.val % 16 = 0)

/-- The condition of the body's `scf.if` 1 (`k1_h2`), from the grid coordinates (the skeleton's scalar
    chain substituted). -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (fun t => by
    have ht : t.val < 64 := Nat.lt_of_lt_of_eq t.isLt N_1
    have e0 : (grid1.coords t 0).val = t.val / 16 % 4 := Pipeline.Grid.coords_val t 0 (by decide) rfl
    have e1 : (grid1.coords t 1).val = t.val / 1 % 16 := Pipeline.Grid.coords_val t 1 (by decide) rfl
    simp only [cond1_1, k1_cond2, e0, e1]
    word_cmp
   : ∀ t : Fin grid1.N, cond1_1 (grid1.coords t) ↔ t.val % 16 = 15)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- At the points of case A the printed configuration (`Cfg.idle`) calls output 3 idle: the case stores nothing into it. -/
theorem idleAt1_3_A : ∀ t : Fin cfg1.N, cond1_0 (grid1.coords t) → ¬cond1_1 (grid1.coords t) → cfg1.idle 3 (grid1.coords t) = true := by decide +kernel
/-- At the points of case A the pipeline does not write output 3's block back. -/
theorem noFlush1_3_A : ∀ t : Fin cfg1.N, cond1_0 (grid1.coords t) → ¬cond1_1 (grid1.coords t) → (cfg1.win 3).flush t = false := by decide +kernel
/-- At the points of case B the printed configuration (`Cfg.idle`) calls output 3 idle: the case stores nothing into it. -/
theorem idleAt1_3_B : ∀ t : Fin cfg1.N, ¬cond1_0 (grid1.coords t) → ¬cond1_1 (grid1.coords t) → cfg1.idle 3 (grid1.coords t) = true := by decide +kernel
/-- At the points of case B the pipeline does not write output 3's block back. -/
theorem noFlush1_3_B : ∀ t : Fin cfg1.N, ¬cond1_0 (grid1.coords t) → ¬cond1_1 (grid1.coords t) → (cfg1.win 3).flush t = false := by decide +kernel
/-- At the points of case C the printed configuration (`Cfg.idle`) calls output 3 live: the case stores into it. -/
theorem liveAt1_3_C : ∀ t : Fin cfg1.N, ¬cond1_0 (grid1.coords t) → cond1_1 (grid1.coords t) → cfg1.idle 3 (grid1.coords t) = false := by decide +kernel

/-- The scratch operand, a whole scoped buffer of the kernel's own. -/
abbrev scM1_0 : Memref sig .tc .vmem S512x5632 .f32 := Memref.whole cc1_scratch0

/-- The region's invariant with the accumulator owned at some contents and every other scoped buffer left unopened. -/
theorem PhiA1_eq (c : Dev nD) :
    (Pipeline.ΦA spec1 c : sProp 𝕄)
      = iprop(iprop((∃ d, owns (c : Thread nD τ) scM1_0 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

/-! ## The body in its three cases: the first, a middle and the last step over the tokens -/

set_option maxHeartbeats 1000000 in
/-- At a first step over the tokens the body leaves the product of its blocks, added to zeros, in the accumulator and
    does not touch the output. -/
theorem sound1_first (c : Dev nD) (i : grid1.Coords) (arg2 : Memref sig .tc .vmem S1024x512 .bf16) (harg2 : arg2.IsWhole) (arg3 : Memref sig .tc .vmem S1024x5632 .bf16) (harg3 : arg3.IsWhole) (arg4 : Memref sig .tc .vmem S5632x256 .bf16) (harg4 : arg4.IsWhole) (arg5 : Memref sig .tc .vmem S512x256 .f32) (harg5 : arg5.IsWhole) (arg6 : Memref sig .tc .vmem S512x5632 .f32) (harg6 : arg6.IsWhole) (hc0 : cond1_0 i) (hc1 : ¬cond1_1 i)
    (x0 : Vec F S1024x512 .bf16) (x1 : Vec F S1024x5632 .bf16) (x2 : Vec F S5632x256 .bf16) (xi3 : Vec F S512x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k1_pay2 (k1_pay1 (F := F)) x0 x1)) -∗ K ⟨⟩))
      ⊢ wp frame (wpE (defs₀ (F := F)) Variants.none c none) E (cc1_project i arg2 harg2 arg3 harg3 arg4 harg4 arg5 harg5 arg6 harg6) K := by
  simp only [cc1_project_eq_skeleton]; unfold cc1_project_skel
  unfold owns
  iintro ⟨⟨%f0, %hf0, H0⟩, ⟨%f1, %hf1, H1⟩, ⟨%f2, %hf2, H2⟩, ⟨%f3, %hf3, H3⟩, ⟨%ds0, %fs0, -, HS0⟩, Hk⟩
  subst hf0 hf1
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; exact hf2
    iexact H2
  isplitl [H3]
  · iexists f3; isplitr; · ipureintro; exact hf3
    iexact H3
  iexists _; isplitr
  swap; · iexact HS0
  ipureintro
  rw [View.read_writes_eq_canon _ _ _ (View.cover_of_tiledL _ S512x5632.size (by sl_kernel_rfl)), View.canon_cons_unit_lit' _ _ _ (by decide)]
  unfold sound1_first.sl.v3
  congr 1
  · exact View.readCov_unit_lit' _ _ _ (by decide)
  · exact View.ld_unit_lit' _ _ (by decide)
  · exact View.ld_unit_lit' _ _ (by decide)

set_option maxHeartbeats 1000000 in
/-- At a step that is neither the first nor the last over the tokens the body adds the product of its blocks to the
    accumulator and does not touch the output. -/
theorem sound1_mid (c : Dev nD) (i : grid1.Coords) (arg2 : Memref sig .tc .vmem S1024x512 .bf16) (harg2 : arg2.IsWhole) (arg3 : Memref sig .tc .vmem S1024x5632 .bf16) (harg3 : arg3.IsWhole) (arg4 : Memref sig .tc .vmem S5632x256 .bf16) (harg4 : arg4.IsWhole) (arg5 : Memref sig .tc .vmem S512x256 .f32) (harg5 : arg5.IsWhole) (arg6 : Memref sig .tc .vmem S512x5632 .f32) (harg6 : arg6.IsWhole) (hc0 : ¬cond1_0 i) (hc1 : ¬cond1_1 i)
    (x0 : Vec F S1024x512 .bf16) (x1 : Vec F S1024x5632 .bf16) (x2 : Vec F S5632x256 .bf16) (xi3 : Vec F S512x256 .f32) (xs : Vec F S512x5632 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k1_pay2 xs x0 x1)) -∗ K ⟨⟩))
      ⊢ wp frame (wpE (defs₀ (F := F)) Variants.none c none) E (cc1_project i arg2 harg2 arg3 harg3 arg4 harg4 arg5 harg5 arg6 harg6) K := by
  simp only [cc1_project_eq_skeleton]; unfold cc1_project_skel
  unfold owns
  iintro ⟨⟨%f0, %hf0, H0⟩, ⟨%f1, %hf1, H1⟩, ⟨%f2, %hf2, H2⟩, ⟨%f3, %hf3, H3⟩, ⟨%fs0, %hs0, HS0⟩, Hk⟩
  subst hf0 hf1 hs0
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; exact hf2
    iexact H2
  isplitl [H3]
  · iexists f3; isplitr; · ipureintro; exact hf3
    iexact H3
  iexists _; isplitr
  swap; · iexact HS0
  ipureintro
  rw [View.read_writes_eq_canon _ _ _ (View.cover_of_tiledL _ S512x5632.size (by sl_kernel_rfl)), View.canon_cons_unit_lit' _ _ _ (by decide)]
  congr 1
  · exact View.ld_unit_lit' _ _ (by decide)
  · exact View.ld_unit_lit' _ _ (by decide)
  · exact View.ld_unit_lit' _ _ (by decide)

set_option maxHeartbeats 1000000 in
/-- At a last step over the tokens the body adds the product of its blocks to the accumulator and stores the accumulator,
    rounded, times the decoded factor. -/
theorem sound1_last (c : Dev nD) (i : grid1.Coords) (arg2 : Memref sig .tc .vmem S1024x512 .bf16) (harg2 : arg2.IsWhole) (arg3 : Memref sig .tc .vmem S1024x5632 .bf16) (harg3 : arg3.IsWhole) (arg4 : Memref sig .tc .vmem S5632x256 .bf16) (harg4 : arg4.IsWhole) (arg5 : Memref sig .tc .vmem S512x256 .f32) (harg5 : arg5.IsWhole) (arg6 : Memref sig .tc .vmem S512x5632 .f32) (harg6 : arg6.IsWhole) (hc0 : ¬cond1_0 i) (hc1 : cond1_1 i)
    (x0 : Vec F S1024x512 .bf16) (x1 : Vec F S1024x5632 .bf16) (x2 : Vec F S5632x256 .bf16) (xs : Vec F S512x5632 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k1_pay3 (k1_pay2 xs x0 x1) x2) ∗ owns (c : Thread nD τ) arg6 fullShare (k1_pay2 xs x0 x1)) -∗ K ⟨⟩))
      ⊢ wp frame (wpE (defs₀ (F := F)) Variants.none c none) E (cc1_project i arg2 harg2 arg3 harg3 arg4 harg4 arg5 harg5 arg6 harg6) K := by
  simp only [cc1_project_eq_skeleton]; unfold cc1_project_skel
  unfold owns
  iintro ⟨⟨%f0, %hf0, H0⟩, ⟨%f1, %hf1, H1⟩, ⟨%f2, %hf2, H2⟩, ⟨%d3, %f3, -, H3⟩, ⟨%fs0, %hs0, HS0⟩, Hk⟩
  subst hf0 hf1 hf2 hs0
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (View.cover_of_tiledL _ S512x256.size (by sl_kernel_rfl)), View.canon_cons_unit_lit' _ _ _ (by decide)]
    unfold sound1_last.sl.v16 sound1_last.sl.HS0_1
    congr 1
    · refine (View.readCov_unit_lit' _ _ _ (by decide)).trans ?_
      congr 1
      · exact View.ld_unit_lit' _ _ (by decide)
      · exact View.ld_unit_lit' _ _ (by decide)
      · exact View.ld_unit_lit' _ _ (by decide)
    · exact View.ld_unit_lit' _ _ (by decide)
  iexists _; isplitr
  swap; · iexact HS0
  ipureintro
  rw [View.read_writes_eq_canon _ _ _ (View.cover_of_tiledL _ S512x5632.size (by sl_kernel_rfl))]
  unfold sound1_last.sl.HS0_1
  rw [View.canon_cons_unit_lit' _ _ _ (by decide)]
  congr 1
  · exact View.ld_unit_lit' _ _ (by decide)
  · exact View.ld_unit_lit' _ _ (by decide)
  · exact View.ld_unit_lit' _ _ (by decide)

/-! ## What the accumulator holds after each point -/

/-- The accumulator after the body at position `n`: at a first step over the tokens the product of the blocks added to
    zeros, at any other step added to what the position before left. -/
def acc1 (c : Dev nD) : (n : ℕ) → n < cfg1.N → Vec F S512x5632 .f32
  | 0, hn => k1_pay2 (k1_pay1 (F := F)) (iblk1 V c 0 ⟨0, hn⟩) (iblk1 V c 1 ⟨0, hn⟩)
  | n + 1, hn =>
    k1_pay2 (if (n + 1) % 16 = 0 then k1_pay1 (F := F) else acc1 c n (Nat.lt_of_succ_lt hn))
      (iblk1 V c 0 ⟨n + 1, hn⟩) (iblk1 V c 1 ⟨n + 1, hn⟩)

/-- The accumulator after a first step. -/
theorem acc1_first (c : Dev nD) (t : Fin cfg1.N) (h0 : t.val % 16 = 0) :
    acc1 V c t.val t.isLt = k1_pay2 (k1_pay1 (F := F)) (iblk1 V c 0 t) (iblk1 V c 1 t) := by
  obtain ⟨n, hn⟩ := t
  cases n with
  | zero => rfl
  | succ n => dsimp only at h0 ⊢; unfold acc1; rw [if_pos h0]

/-- The accumulator after any other step. -/
theorem acc1_next (c : Dev nD) (t : Fin cfg1.N) (h0 : ¬t.val % 16 = 0) :
    acc1 V c t.val t.isLt = k1_pay2 (acc1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h0
  | succ n => dsimp only at h0 ⊢; rw [acc1, if_neg h0]; try rfl

/-- The region's invariant before position `n`: at the first position every scratch at anything, afterwards the accumulator
    at what the position before left. -/
def PhiS (c : Dev nD) : (n : ℕ) → n ≤ cfg1.N → sProp 𝕄
  | 0, _ => Pipeline.ΦA spec1 c
  | n + 1, hn => iprop(iprop(owns (c : Thread nD τ) scM1_0 fullShare (acc1 V c n hn)
          ∗ Pipeline.scopedRestBut (Ix := Unit) (Name := ℕ) (U := UR sig nD τ) (Lvl := ℕ) (Val := Elt F) spec1 c [cc1_scratch0]) ∗ (∃ r, prngReg c r))

/-- Before the first grid point the invariant of the project call is what the call is entered with. -/
theorem PhiS_zero (c : Dev nD) (n : ℕ) (h : n ≤ cfg1.N) (hz : n = 0) : PhiS V c n h = Pipeline.ΦA spec1 c := by
  subst hz; rfl

/-- After point `n`. -/
theorem PhiS_succ (c : Dev nD) (n : ℕ) (hn : n < cfg1.N) :
    PhiS V c (n + 1) hn = iprop(iprop(owns (c : Thread nD τ) scM1_0 fullShare (acc1 V c n hn)
          ∗ Pipeline.scopedRestBut (Ix := Unit) (Name := ℕ) (U := UR sig nD τ) (Lvl := ℕ) (Val := Elt F) spec1 c [cc1_scratch0]) ∗ (∃ r, prngReg c r)) := rfl

/-- Before a point that is not the first. -/
theorem PhiS_pos (c : Dev nD) (n : ℕ) (h : n ≤ cfg1.N) (hz : n ≠ 0) :
    PhiS V c n h = iprop(iprop(owns (c : Thread nD τ) scM1_0 fullShare (acc1 V c (n - 1) (by omega))
          ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of pipeline 1 on core `c`: the arrays as the region finds them (`V`); after the body at point `t` each
    input's buffer at its block and the output's at the rounded accumulator times the factor (read only at the last steps,
    elsewhere the window is idle); the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := PhiS V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-- What the body leaves, window by window. -/
theorem after1_0 (c : Dev nD) (t : Fin cfg1.N) : (dat1 V c).after 0 t = iblk1 V c 0 t := by dsimp only [dat1]
/-- What window 1 of the project call holds after a grid point. -/
theorem after1_1 (c : Dev nD) (t : Fin cfg1.N) : (dat1 V c).after 1 t = iblk1 V c 1 t := by dsimp only [dat1]
/-- What window 2 of the project call holds after a grid point. -/
theorem after1_2 (c : Dev nD) (t : Fin cfg1.N) : (dat1 V c).after 2 t = iblk1 V c 2 t := by dsimp only [dat1]
/-- What window 3 of the project call holds after a grid point. -/
theorem after1_3 (c : Dev nD) (t : Fin cfg1.N) : (dat1 V c).after 3 t = k1_pay3 (acc1 V c t.val t.isLt) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
/-- Window 1 of the project call holds its block before a grid point. -/
theorem before1_1 (c : Dev nD) (t : Fin cfg1.N) (d) : (dat1 V c).before 1 t d = iblk1 V c 1 t :=
  before1_1_of V (dat1 V c) (A_eq1 V c 1) (after1_1 V c) t d
/-- Window 2 of the project call holds its block before a grid point. -/
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: by the case the point is in, the case's triple, the accumulator taken out of the invariant and
    put back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
      unfold Dat.leavesExact; rw [liveAt1_0 t], after1_0]
  rw [show (dat1 V c).leavesExact 1 t = owns (c : Thread nD τ) (st1_1 t) fullShare ((dat1 V c).after 1 t) from by
      unfold Dat.leavesExact; rw [liveAt1_1 t], after1_1]
  rw [show (dat1 V c).leavesExact 2 t = owns (c : Thread nD τ) (st1_2 t) fullShare ((dat1 V c).after 2 t) from by
      unfold Dat.leavesExact; rw [liveAt1_2 t], after1_2]
  have hN : t.val < 64 := lt_of_lt_of_eq t.isLt (show cfg1.N = 64 from N_1)
  by_cases h0 : t.val % 16 = 0
  · have c0 := (hcond1_0 t).mpr h0
    have c1 : ¬cond1_1 (grid1.coords t) := fun h => by have := (hcond1_1 t).mp h; omega
    rw [Dat.leavesExact_idle (dat1 V c) 3 t (idleAt1_3_A t c0 c1) (noFlush1_3_A t c0 c1), acc1_first V c t h0]
    have hΦ : (dat1 V c).Φ t.castSucc ⊢ (Pipeline.ΦA spec1 c : sProp 𝕄) := by
      rw [PhiS_castSucc V c t]
      by_cases hz : t.val = 0
      · rw [PhiS_zero V c _ _ hz]
      · rw [PhiS_pos V c _ _ hz, PhiA1_eq]
        iintro ⟨⟨HS0, HR⟩, Hg⟩
        isplitl [HS0 HR]
        · isplitl [HS0]
          · iexists _; iexact HS0
          iexact HR
        iexact Hg
    rw [PhiA1_eq] at hΦ
    iintro ⟨HΦ, Ho, ⟨%d0, H0⟩, ⟨%d1, H1⟩, ⟨%d2, H2⟩, ⟨%d3, H3⟩⟩
    ihave HΦ' := hΦ $$ HΦ
    icases HΦ' with ⟨⟨HS0, HR⟩, Hg⟩
    iapply (sound1_first c (grid1.coords t) _ _ _ _ _ _ _ _ _ _ c0 c1 (iblk1 V c 0 t) (iblk1 V c 1 t) (iblk1 V c 2 t) _ Set.univ _)
    isplitl [H0]; · iexact H0
    isplitl [H1]; · iexact H1
    isplitl [H2]; · iexact H2
    isplitl [H3]; · iexact H3
    isplitl [HS0]; · iexact HS0
    iintro ⟨H0, H1, H2, H3, HS0⟩
    isplitl [HS0 HR Hg]
    · isplitl [HS0 HR]
      · isplitl [HS0]
        · iexact HS0
        iexact HR
      iexact Hg
    isplitl [Ho]; · iexact Ho
    isplitl [H0]; · iexact H0
    isplitl [H1]; · iexact H1
    isplitl [H2]; · iexact H2
    iexists _; iexact H3
  · have c0 : ¬cond1_0 (grid1.coords t) := fun h => h0 ((hcond1_0 t).mp h)
    have hz : t.val ≠ 0 := fun h => h0 (by rw [h])
    rw [PhiS_castSucc V c t, PhiS_pos V c _ _ hz, acc1_next V c t h0]
    by_cases h1 : t.val % 16 = 15
    · have c1 := (hcond1_1 t).mpr h1
      rw [show (dat1 V c).leavesExact 3 t = owns (c : Thread nD τ) (st1_3 t) fullShare ((dat1 V c).after 3 t) from by
          unfold Dat.leavesExact; rw [liveAt1_3_C t c0 c1], after1_3, acc1_next V c t h0]
      iintro ⟨⟨⟨HS0, HR⟩, Hg⟩, Ho, ⟨%d0, H0⟩, ⟨%d1, H1⟩, ⟨%d2, H2⟩, ⟨%d3, H3⟩⟩
      iapply (sound1_last c (grid1.coords t) _ _ _ _ _ _ _ _ _ _ c0 c1 (iblk1 V c 0 t) (iblk1 V c 1 t) (iblk1 V c 2 t) _ Set.univ _)
      isplitl [H0]; · iexact H0
      isplitl [H1]; · iexact H1
      isplitl [H2]; · iexact H2
      isplitl [H3]; · iexists _; iexact H3
      isplitl [HS0]; · iexact HS0
      iintro ⟨H0, H1, H2, H3, HS0⟩
      isplitl [HS0 HR Hg]
      · isplitl [HS0 HR]
        · isplitl [HS0]
          · iexact HS0
          iexact HR
        iexact Hg
      isplitl [Ho]; · iexact Ho
      isplitl [H0]; · iexact H0
      isplitl [H1]; · iexact H1
      isplitl [H2]; · iexact H2
      iexact H3
    · have c1 : ¬cond1_1 (grid1.coords t) := fun h => h1 ((hcond1_1 t).mp h)
      rw [Dat.leavesExact_idle (dat1 V c) 3 t (idleAt1_3_B t c0 c1) (noFlush1_3_B t c0 c1)]
      iintro ⟨⟨⟨HS0, HR⟩, Hg⟩, Ho, ⟨%d0, H0⟩, ⟨%d1, H1⟩, ⟨%d2, H2⟩, ⟨%d3, H3⟩⟩
      iapply (sound1_mid c (grid1.coords t) _ _ _ _ _ _ _ _ _ _ c0 c1 (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [HS0 HR Hg]
      · isplitl [HS0 HR]
        · isplitl [HS0]
          · iexact HS0
          iexact HR
        iexact Hg
      isplitl [Ho]; · iexact Ho
      isplitl [H0]; · iexact H0
      isplitl [H1]; · iexact H1
      isplitl [H2]; · iexact H2
      iexists _; iexact H3

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the accumulator's contents are forgotten. -/
theorem hout1 (c : Dev nD) : (dat1 V c).Φ (Fin.last cfg1.N) ⊢ Pipeline.ΦA spec1 c := by
  have hN : cfg1.N = 64 := N_1
  rw [show (dat1 V c).Φ (Fin.last cfg1.N) = PhiS V c (Fin.last cfg1.N).val (Nat.le_of_lt_succ (Fin.last cfg1.N).isLt) from rfl,
    PhiS_pos V c _ _ (by rw [Fin.val_last]; omega), PhiA1_eq]
  iintro ⟨⟨HS0, HR⟩, Hg⟩
  isplitl [HS0 HR]
  · isplitl [HS0]
    · iexists _; iexact HS0
    iexact HR
  iexact Hg

end Regions

end Cert.KernelIdeal.Run

end
-- ==== Proof.KI.Region2.lean ====
/- The moment-update call as one region: what its body leaves, the proof data of its pipeline and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2_adam` (pipeline 2), at the entry contents `V` -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S2048x256 := Rect.unit (s := S2048x256) ![0, 0] S2048x256.size inb_S2048x256_S2048x256_0_0
abbrev r2_1 : Rect S256x2048 := Rect.unit (s := S256x2048) ![0, 0] S256x128.size inb_S256x2048_S256x128_0_0
abbrev r2_2 : Rect S256x16 := Rect.unit (s := S256x16) ![0, 0] S256x1.size inb_S256x16_S256x1_0_0
abbrev r2_3 : Rect S256x2048 := Rect.unit (s := S256x2048) ![0, 128] S256x128.size inb_S256x2048_S256x128_0_128
abbrev r2_4 : Rect S256x16 := Rect.unit (s := S256x16) ![0, 1] S256x1.size inb_S256x16_S256x1_0_1
abbrev r2_5 : Rect S256x2048 := Rect.unit (s := S256x2048) ![0, 256] S256x128.size inb_S256x2048_S256x128_0_256
abbrev r2_6 : Rect S256x16 := Rect.unit (s := S256x16) ![0, 2] S256x1.size inb_S256x16_S256x1_0_2
abbrev r2_7 : Rect S256x2048 := Rect.unit (s := S256x2048) ![0, 384] S256x128.size inb_S256x2048_S256x128_0_384
abbrev r2_8 : Rect S256x16 := Rect.unit (s := S256x16) ![0, 3] S256x1.size inb_S256x16_S256x1_0_3
abbrev r2_9 : Rect S256x2048 := Rect.unit (s := S256x2048) ![0, 512] S256x128.size inb_S256x2048_S256x128_0_512
abbrev r2_10 : Rect S256x16 := Rect.unit (s := S256x16) ![0, 4] S256x1.size inb_S256x16_S256x1_0_4
abbrev r2_11 : Rect S256x2048 := Rect.unit (s := S256x2048) ![0, 640] S256x128.size inb_S256x2048_S256x128_0_640
abbrev r2_12 : Rect S256x16 := Rect.unit (s := S256x16) ![0, 5] S256x1.size inb_S256x16_S256x1_0_5
abbrev r2_13 : Rect S256x2048 := Rect.unit (s := S256x2048) ![0, 768] S256x128.size inb_S256x2048_S256x128_0_768
abbrev r2_14 : Rect S256x16 := Rect.unit (s := S256x16) ![0, 6] S256x1.size inb_S256x16_S256x1_0_6
abbrev r2_15 : Rect S256x2048 := Rect.unit (s := S256x2048) ![0, 896] S256x128.size inb_S256x2048_S256x128_0_896
abbrev r2_16 : Rect S256x16 := Rect.unit (s := S256x16) ![0, 7] S256x1.size inb_S256x16_S256x1_0_7
abbrev r2_17 : Rect S256x2048 := Rect.unit (s := S256x2048) ![0, 1024] S256x128.size inb_S256x2048_S256x128_0_1024
abbrev r2_18 : Rect S256x16 := Rect.unit (s := S256x16) ![0, 8] S256x1.size inb_S256x16_S256x1_0_8
abbrev r2_19 : Rect S256x2048 := Rect.unit (s := S256x2048) ![0, 1152] S256x128.size inb_S256x2048_S256x128_0_1152
abbrev r2_20 : Rect S256x16 := Rect.unit (s := S256x16) ![0, 9] S256x1.size inb_S256x16_S256x1_0_9
abbrev r2_21 : Rect S256x2048 := Rect.unit (s := S256x2048) ![0, 1280] S256x128.size inb_S256x2048_S256x128_0_1280
abbrev r2_22 : Rect S256x16 := Rect.unit (s := S256x16) ![0, 10] S256x1.size inb_S256x16_S256x1_0_10
abbrev r2_23 : Rect S256x2048 := Rect.unit (s := S256x2048) ![0, 1408] S256x128.size inb_S256x2048_S256x128_0_1408
abbrev r2_24 : Rect S256x16 := Rect.unit (s := S256x16) ![0, 11] S256x1.size inb_S256x16_S256x1_0_11
abbrev r2_25 : Rect S256x2048 := Rect.unit (s := S256x2048) ![0, 1536] S256x128.size inb_S256x2048_S256x128_0_1536
abbrev r2_26 : Rect S256x16 := Rect.unit (s := S256x16) ![0, 12] S256x1.size inb_S256x16_S256x1_0_12
abbrev r2_27 : Rect S256x2048 := Rect.unit (s := S256x2048) ![0, 1664] S256x128.size inb_S256x2048_S256x128_0_1664
abbrev r2_28 : Rect S256x16 := Rect.unit (s := S256x16) ![0, 13] S256x1.size inb_S256x16_S256x1_0_13
abbrev r2_29 : Rect S256x2048 := Rect.unit (s := S256x2048) ![0, 1792] S256x128.size inb_S256x2048_S256x128_0_1792
abbrev r2_30 : Rect S256x16 := Rect.unit (s := S256x16) ![0, 14] S256x1.size inb_S256x16_S256x1_0_14
abbrev r2_31 : Rect S256x2048 := Rect.unit (s := S256x2048) ![0, 1920] S256x128.size inb_S256x2048_S256x128_0_1920
abbrev r2_32 : Rect S256x16 := Rect.unit (s := S256x16) ![0, 15] S256x1.size inb_S256x16_S256x1_0_15

/-! ## What the body leaves in each output window's buffer -/

/-! ### Values of the body that the stores' payloads, spelt out, would write more than once

    Each is a vector the body binds (often a part call's result), stated over the input windows' blocks and
    numbered on from the skeleton's payload functions (`k2_pay170` …, after `k2_pay169`), so that
    `out2_W` and the values after it name it instead of spelling it out; the comment after each is the printed function's
    name for the value (a count appended where that name is bound again). -/

def k2_pay170 (x0 : Vec F S2048x256 .f32) (x1 : Vec F S256x2048 .i8) (x2 : Vec F S256x16 .f32) (x3 : Vec F S256x2048 .i8) (x4 : Vec F S256x16 .f32) : FVec F S256x2048 .f32 :=
  k2_pay2 (View.ld x0 r2_0) -- `v2`
def k2_pay171 (x0 : Vec F S2048x256 .f32) (x1 : Vec F S256x2048 .i8) (x2 : Vec F S256x16 .f32) (x3 : Vec F S256x2048 .i8) (x4 : Vec F S256x16 .f32) : FVec F S256x128 .f32 :=
  k2_pay5 (View.ld x0 r2_0) (View.ld x3 r2_1) (View.ld x4 r2_2) -- `v24`
def k2_pay172 (x0 : Vec F S2048x256 .f32) (x1 : Vec F S256x2048 .i8) (x2 : Vec F S256x16 .f32) (x3 : Vec F S256x2048 .i8) (x4 : Vec F S256x16 .f32) : FVec F S256x1 .f32 :=
  k2_pay7 (View.ld x0 r2_0) (View.ld x1 r2_1) (View.ld x2 r2_2) -- `v36`
def k2_pay173 (x0 : Vec F S2048x256 .f32) (x1 : Vec F S256x2048 .i8) (x2 : Vec F S256x16 .f32) (x3 : Vec F S256x2048 .i8) (x4 : Vec F S256x16 .f32) : FVec F S256x1 .f32 :=
  k2_pay8 (F := F) -- `v37`
def k2_pay174 (x0 : Vec F S2048x256 .f32) (x1 : Vec F S256x2048 .i8) (x2 : Vec F S256x16 .f32) (x3 : Vec F S256x2048 .i8) (x4 : Vec F S256x16 .f32) : FVec F S256x128 .f32 :=
  k2_pay13 (k2_pay170 x0 x1 x2 x3 x4) -- `v72`
def k2_pay175 (x0 : Vec F S2048x256 .f32) (x1 : Vec F S256x2048 .i8) (x2 : Vec F S256x16 .f32) (x3 : Vec F S256x2048 .i8) (x4 : Vec F S256x16 .f32) : FVec F S256x128 .f32 :=
  k2_pay15 (k2_pay174 x0 x1 x2 x3 x4) (View.ld x3 r2_3) (View.ld x4 r2_4) -- `v93`
def k2_pay176 (x0 : Vec F S2048x256 .f32) (x1 : Vec F S256x2048 .i8) (x2 : Vec F S256x16 .f32) (x3 : Vec F S256x2048 .i8) (x4 : Vec F S256x16 .f32) : FVec F S256x128 .f32 :=
  k2_pay22 (k2_pay170 x0 x1 x2 x3 x4) -- `v141`
def k2_pay177 (x0 : Vec F S2048x256 .f32) (x1 : Vec F S256x2048 .i8) (x2 : Vec F S256x16 .f32) (x3 : Vec F S256x2048 .i8) (x4 : Vec F S256x16 .f32) : FVec F S256x128 .f32 :=
  k2_pay23 (View.ld x1 r2_5) (View.ld x2 r2_6) -- `v146`
def k2_pay178 (x0 : Vec F S2048x256 .f32) (x1 : Vec F S256x2048 .i8) (x2 : Vec F S256x16 .f32) (x3 : Vec F S256x2048 .i8) (x4 : Vec F S256x16 .f32) : FVec F S256x128 .f32 :=
  k2_pay25 (k2_pay176 x0 x1 x2 x3 x4) (View.ld x3 r2_5) (View.ld x4 r2_6) -- `v162`
def k2_pay179 (x0 : Vec F S2048x256 .f32) (x1 : Vec F S256x2048 .i8) (x2 : Vec F S256x16 .f32) (x3 : Vec F S256x2048 .i8) (x4 : Vec F S256x16 .f32) : FVec F S256x128 .f32 :=
  k2_pay31 (k2_pay170 x0 x1 x2 x3 x4) -- `v210`
def k2_pay180 (x0 : Vec F S2048x256 .f32) (x1 : Vec F S256x2048 .i8) (x2 : Vec F S256x16 .f32) (x3 : Vec F S256x2048 .i8) (x4 : Vec F S256x16 .f32) : FVec F S256x128 .f32 :=
  k2_pay32 (View.ld x3 r2_7) (View.ld x4 r2_8) -- `v220`
def k2_pay181 (x0 : Vec F S2048x256 .f32) (x1 : Vec F S256x2048 .i8) (x2 : Vec F S256x16 .f32) (x3 : Vec F S256x2048 .i8) (x4 : Vec F S256x16 .f32) : FVec F S256x128 .f32 :=
  k2_pay33 (View.ld x1 r2_7) (View.ld x2 r2_8) -- `v222`
def k2_pay182 (x0 : Vec F S2048x256 .f32) (x1 : Vec F S256x2048 .i8) (x2 : Vec F S256x16 .f32) (x3 : Vec F S256x2048 .i8) (x4 : Vec F S256x16 .f32) : FVec F S256x128 .f32 :=
  k2_pay39 (k2_pay179 x0 x1 x2 x3 x4) (k2_pay180 x0 x1 x2 x3 x4) -- `v260`
def k2_pay183 (x0 : Vec F S2048x256 .f32) (x1 : Vec F S256x2048 .i8) (x2 : Vec F S256x16 .f32) (x3 : Vec F S256x2048 .i8) (x4 : Vec F S256x16 .f32) : FVec F S256x128 .f32 :=
  k2_pay42 (k2_pay170 x0 x1 x2 x3 x4) -- `v279`
def k2_pay184 (x0 : Vec F S2048x256 .f32) (x1 : Vec F S256x2048 .i8) (x2 : Vec F S256x16 .f32) (x3 : Vec F S256x2048 .i8) (x4 : Vec F S256x16 .f32) : FVec F S256x128 .f32 :=
  k2_pay43 (k2_pay170 x0 x1 x2 x3 x4) (View.ld x1 r2_9) (View.ld x2 r2_10) -- `v294`
def k2_pay185 (x0 : Vec F S2048x256 .f32) (x1 : Vec F S256x2048 .i8) (x2 : Vec F S256x16 .f32) (x3 : Vec F S256x2048 .i8) (x4 : Vec F S256x16 .f32) : FVec F S256x128 .f32 :=
  k2_pay44 (View.ld x3 r2_9) (View.ld x4 r2_10) -- `v296`
def k2_pay186 (x0 : Vec F S2048x256 .f32) (x1 : Vec F S256x2048 .i8) (x2 : Vec F S256x16 .f32) (x3 : Vec F S256x2048 .i8) (x4 : Vec F S256x16 .f32) : FVec F S256x128 .f32 :=
  k2_pay45 (F := F) -- `v297`
def k2_pay187 (x0 : Vec F S2048x256 .f32) (x1 : Vec F S256x2048 .i8) (x2 : Vec F S256x16 .f32) (x3 : Vec F S256x2048 .i8) (x4 : Vec F S256x16 .f32) : IVec S256x1 1 :=
  k2_pay51 (k2_pay183 x0 x1 x2 x3 x4) (k2_pay185 x0 x1 x2 x3 x4) (k2_pay186 x0 x1 x2 x3 x4) -- `v333`
def k2_pay188 (x0 : Vec F S2048x256 .f32) (x1 : Vec F S256x2048 .i8) (x2 : Vec F S256x16 .f32) (x3 : Vec F S256x2048 .i8) (x4 : Vec F S256x16 .f32) : FVec F S256x1 .f32 :=
  k2_pay52 (k2_pay183 x0 x1 x2 x3 x4) (k2_pay185 x0 x1 x2 x3 x4) (k2_pay186 x0 x1 x2 x3 x4) -- `v335`
def k2_pay189 (x0 : Vec F S2048x256 .f32) (x1 : Vec F S256x2048 .i8) (x2 : Vec F S256x16 .f32) (x3 : Vec F S256x2048 .i8) (x4 : Vec F S256x16 .f32) : FVec F S256x128 .f32 :=
  k2_pay56 (k2_pay170 x0 x1 x2 x3 x4) (View.ld x1 r2_11) (View.ld x2 r2_12) -- `v363`
def k2_pay190 (x0 : Vec F S2048x256 .f32) (x1 : Vec F S256x2048 .i8) (x2 : Vec F S256x16 .f32) (x3 : Vec F S256x2048 .i8) (x4 : Vec F S256x16 .f32) : FVec F S256x128 .f32 :=
  k2_pay57 (k2_pay170 x0 x1 x2 x3 x4) (View.ld x3 r2_11) (View.ld x4 r2_12) -- `v369`
def k2_pay191 (x0 : Vec F S2048x256 .f32) (x1 : Vec F S256x2048 .i8) (x2 : Vec F S256x16 .f32) (x3 : Vec F S256x2048 .i8) (x4 : Vec F S256x16 .f32) : FVec F S256x128 .f32 :=
  k2_pay67 (k2_pay170 x0 x1 x2 x3 x4) (View.ld x1 r2_13) (View.ld x2 r2_14) -- `v432`
def k2_pay192 (x0 : Vec F S2048x256 .f32) (x1 : Vec F S256x2048 .i8) (x2 : Vec F S256x16 .f32) (x3 : Vec F S256x2048 .i8) (x4 : Vec F S256x16 .f32) : FVec F S256x128 .f32 :=
  k2_pay68 (k2_pay170 x0 x1 x2 x3 x4) (View.ld x3 r2_13) (View.ld x4 r2_14) -- `v438`
def k2_pay193 (x0 : Vec F S2048x256 .f32) (x1 : Vec F S256x2048 .i8) (x2 : Vec F S256x16 .f32) (x3 : Vec F S256x2048 .i8) (x4 : Vec F S256x16 .f32) : FVec F S256x128 .f32 :=
  k2_pay76 (k2_pay170 x0 x1 x2 x3 x4) (View.ld x3 r2_15) (View.ld x4 r2_16) -- `v507`
def k2_pay194 (x0 : Vec F S2048x256 .f32) (x1 : Vec F S256x2048 .i8) (x2 : Vec F S256x16 .f32) (x3 : Vec F S256x2048 .i8) (x4 : Vec F S256x16 .f32) : FVec F S256x1 .f32 :=
  k2_pay78 (k2_pay170 x0 x1 x2 x3 x4) (View.ld x1 r2_15) (View.ld x2 r2_16) -- `v519`
def k2_pay195 (x0 : Vec F S2048x256 .f32) (x1 : Vec F S256x2048 .i8) (x2 : Vec F S256x16 .f32) (x3 : Vec F S256x2048 .i8) (x4 : Vec F S256x16 .f32) : IVec S256x1 1 :=
  k2_pay79 (k2_pay170 x0 x1 x2 x3 x4) (View.ld x1 r2_15) (View.ld x2 r2_16) -- `v521`
def k2_pay196 (x0 : Vec F S2048x256 .f32) (x1 : Vec F S256x2048 .i8) (x2 : Vec F S256x16 .f32) (x3 : Vec F S256x2048 .i8) (x4 : Vec F S256x16 .f32) : FVec F S256x1 .f32 :=
  k2_pay80 (F := F) -- `v522`
def k2_pay197 (x0 : Vec F S2048x256 .f32) (x1 : Vec F S256x2048 .i8) (x2 : Vec F S256x16 .f32) (x3 : Vec F S256x2048 .i8) (x4 : Vec F S256x16 .f32) : FVec F S256x128 .f32 :=
  k2_pay85 (k2_pay170 x0 x1 x2 x3 x4) -- `v555`
def k2_pay198 (x0 : Vec F S2048x256 .f32) (x1 : Vec F S256x2048 .i8) (x2 : Vec F S256x16 .f32) (x3 : Vec F S256x2048 .i8) (x4 : Vec F S256x16 .f32) : FVec F S256x128 .f32 :=
  k2_pay86 (View.ld x1 r2_17) -- `v557`
def k2_pay199 (x0 : Vec F S2048x256 .f32) (x1 : Vec F S256x2048 .i8) (x2 : Vec F S256x16 .f32) (x3 : Vec F S256x2048 .i8) (x4 : Vec F S256x16 .f32) : FVec F S256x128 .f32 :=
  k2_pay88 (k2_pay197 x0 x1 x2 x3 x4) (View.ld x3 r2_17) (View.ld x4 r2_18) -- `v576`
def k2_pay200 (x0 : Vec F S2048x256 .f32) (x1 : Vec F S256x2048 .i8) (x2 : Vec F S256x16 .f32) (x3 : Vec F S256x2048 .i8) (x4 : Vec F S256x16 .f32) : FVec F S256x128 .f32 :=
  k2_pay95 (k2_pay170 x0 x1 x2 x3 x4) -- `v624`
def k2_pay201 (x0 : Vec F S2048x256 .f32) (x1 : Vec F S256x2048 .i8) (x2 : Vec F S256x16 .f32) (x3 : Vec F S256x2048 .i8) (x4 : Vec F S256x16 .f32) : FVec F S256x128 .f32 :=
  k2_pay96 (View.ld x1 r2_19) (View.ld x2 r2_20) -- `v629`
def k2_pay202 (x0 : Vec F S2048x256 .f32) (x1 : Vec F S256x2048 .i8) (x2 : Vec F S256x16 .f32) (x3 : Vec F S256x2048 .i8) (x4 : Vec F S256x16 .f32) : FVec F S256x128 .f32 :=
  k2_pay97 (View.ld x3 r2_19) -- `v631`
def k2_pay203 (x0 : Vec F S2048x256 .f32) (x1 : Vec F S256x2048 .i8) (x2 : Vec F S256x16 .f32) (x3 : Vec F S256x2048 .i8) (x4 : Vec F S256x16 .f32) : FVec F S256x128 .f32 :=
  k2_pay99 (k2_pay200 x0 x1 x2 x3 x4) (k2_pay202 x0 x1 x2 x3 x4) (View.ld x4 r2_20) -- `v645`
def k2_pay204 (x0 : Vec F S2048x256 .f32) (x1 : Vec F S256x2048 .i8) (x2 : Vec F S256x16 .f32) (x3 : Vec F S256x2048 .i8) (x4 : Vec F S256x16 .f32) : FVec F S256x128 .f32 :=
  k2_pay105 (k2_pay170 x0 x1 x2 x3 x4) -- `v693`
def k2_pay205 (x0 : Vec F S2048x256 .f32) (x1 : Vec F S256x2048 .i8) (x2 : Vec F S256x16 .f32) (x3 : Vec F S256x2048 .i8) (x4 : Vec F S256x16 .f32) : FVec F S256x128 .f32 :=
  k2_pay106 (View.ld x3 r2_21) (View.ld x4 r2_22) -- `v703`
def k2_pay206 (x0 : Vec F S2048x256 .f32) (x1 : Vec F S256x2048 .i8) (x2 : Vec F S256x16 .f32) (x3 : Vec F S256x2048 .i8) (x4 : Vec F S256x16 .f32) : FVec F S256x128 .f32 :=
  k2_pay107 (View.ld x1 r2_21) (View.ld x2 r2_22) -- `v705`
def k2_pay207 (x0 : Vec F S2048x256 .f32) (x1 : Vec F S256x2048 .i8) (x2 : Vec F S256x16 .f32) (x3 : Vec F S256x2048 .i8) (x4 : Vec F S256x16 .f32) : FVec F S256x128 .f32 :=
  k2_pay108 (k2_pay170 x0 x1 x2 x3 x4) -- `v707`
def k2_pay208 (x0 : Vec F S2048x256 .f32) (x1 : Vec F S256x2048 .i8) (x2 : Vec F S256x16 .f32) (x3 : Vec F S256x2048 .i8) (x4 : Vec F S256x16 .f32) : FVec F S256x1 .f32 :=
  k2_pay114 (k2_pay204 x0 x1 x2 x3 x4) (k2_pay205 x0 x1 x2 x3 x4) -- `v745`
def k2_pay209 (x0 : Vec F S2048x256 .f32) (x1 : Vec F S256x2048 .i8) (x2 : Vec F S256x16 .f32) (x3 : Vec F S256x2048 .i8) (x4 : Vec F S256x16 .f32) : FVec F S256x128 .f32 :=
  k2_pay118 (k2_pay170 x0 x1 x2 x3 x4) (View.ld x1 r2_23) (View.ld x2 r2_24) -- `v777`
def k2_pay210 (x0 : Vec F S2048x256 .f32) (x1 : Vec F S256x2048 .i8) (x2 : Vec F S256x16 .f32) (x3 : Vec F S256x2048 .i8) (x4 : Vec F S256x16 .f32) : FVec F S256x128 .f32 :=
  k2_pay119 (k2_pay170 x0 x1 x2 x3 x4) (View.ld x3 r2_23) (View.ld x4 r2_24) -- `v783`
def k2_pay211 (x0 : Vec F S2048x256 .f32) (x1 : Vec F S256x2048 .i8) (x2 : Vec F S256x16 .f32) (x3 : Vec F S256x2048 .i8) (x4 : Vec F S256x16 .f32) : FVec F S256x128 .f32 :=
  k2_pay127 (k2_pay170 x0 x1 x2 x3 x4) (View.ld x1 r2_25) (View.ld x2 r2_26) -- `v846`
def k2_pay212 (x0 : Vec F S2048x256 .f32) (x1 : Vec F S256x2048 .i8) (x2 : Vec F S256x16 .f32) (x3 : Vec F S256x2048 .i8) (x4 : Vec F S256x16 .f32) : FVec F S256x128 .f32 :=
  k2_pay128 (k2_pay170 x0 x1 x2 x3 x4) (View.ld x3 r2_25) (View.ld x4 r2_26) -- `v852`
def k2_pay213 (x0 : Vec F S2048x256 .f32) (x1 : Vec F S256x2048 .i8) (x2 : Vec F S256x16 .f32) (x3 : Vec F S256x2048 .i8) (x4 : Vec F S256x16 .f32) : FVec F S256x128 .f32 :=
  k2_pay139 (k2_pay170 x0 x1 x2 x3 x4) (View.ld x3 r2_27) (View.ld x4 r2_28) -- `v921`
def k2_pay214 (x0 : Vec F S2048x256 .f32) (x1 : Vec F S256x2048 .i8) (x2 : Vec F S256x16 .f32) (x3 : Vec F S256x2048 .i8) (x4 : Vec F S256x16 .f32) : FVec F S256 .f32 :=
  k2_pay141 (k2_pay170 x0 x1 x2 x3 x4) (View.ld x1 r2_27) (View.ld x2 r2_28) -- `v932`
def k2_pay215 (x0 : Vec F S2048x256 .f32) (x1 : Vec F S256x2048 .i8) (x2 : Vec F S256x16 .f32) (x3 : Vec F S256x2048 .i8) (x4 : Vec F S256x16 .f32) : FVec F S256x128 .f32 :=
  k2_pay146 (k2_pay170 x0 x1 x2 x3 x4) -- `v969`
def k2_pay216 (x0 : Vec F S2048x256 .f32) (x1 : Vec F S256x2048 .i8) (x2 : Vec F S256x16 .f32) (x3 : Vec F S256x2048 .i8) (x4 : Vec F S256x16 .f32) : FVec F S256x128 .f32 :=
  k2_pay148 (k2_pay215 x0 x1 x2 x3 x4) (View.ld x3 r2_29) (View.ld x4 r2_30) -- `v990`
def k2_pay217 (x0 : Vec F S2048x256 .f32) (x1 : Vec F S256x2048 .i8) (x2 : Vec F S256x16 .f32) (x3 : Vec F S256x2048 .i8) (x4 : Vec F S256x16 .f32) : IVec S256x1 1 :=
  k2_pay151 (k2_pay215 x0 x1 x2 x3 x4) (View.ld x1 r2_29) (View.ld x2 r2_30) -- `v1004`
def k2_pay218 (x0 : Vec F S2048x256 .f32) (x1 : Vec F S256x2048 .i8) (x2 : Vec F S256x16 .f32) (x3 : Vec F S256x2048 .i8) (x4 : Vec F S256x16 .f32) : FVec F S256x1 .f32 :=
  k2_pay152 (k2_pay215 x0 x1 x2 x3 x4) (View.ld x1 r2_29) (View.ld x2 r2_30) -- `v1006`
def k2_pay219 (x0 : Vec F S2048x256 .f32) (x1 : Vec F S256x2048 .i8) (x2 : Vec F S256x16 .f32) (x3 : Vec F S256x2048 .i8) (x4 : Vec F S256x16 .f32) : FVec F S256x1 .f32 :=
  k2_pay153 (F := F) -- `v1007`
def k2_pay220 (x0 : Vec F S2048x256 .f32) (x1 : Vec F S256x2048 .i8) (x2 : Vec F S256x16 .f32) (x3 : Vec F S256x2048 .i8) (x4 : Vec F S256x16 .f32) : FVec F S256x128 .f32 :=
  k2_pay158 (k2_pay170 x0 x1 x2 x3 x4) -- `v1038`
def k2_pay221 (x0 : Vec F S2048x256 .f32) (x1 : Vec F S256x2048 .i8) (x2 : Vec F S256x16 .f32) (x3 : Vec F S256x2048 .i8) (x4 : Vec F S256x16 .f32) : FVec F S256x128 .f32 :=
  k2_pay159 (View.ld x1 r2_31) (View.ld x2 r2_32) -- `v1043`
def k2_pay222 (x0 : Vec F S2048x256 .f32) (x1 : Vec F S256x2048 .i8) (x2 : Vec F S256x16 .f32) (x3 : Vec F S256x2048 .i8) (x4 : Vec F S256x16 .f32) : FVec F S256x128 .f32 :=
  k2_pay161 (k2_pay220 x0 x1 x2 x3 x4) (View.ld x3 r2_31) (View.ld x4 r2_32) -- `v1059`

/-- Window 5's staging buffer after the body, from the input windows' blocks: its 16 stores as pieces, LAST
    FIRST (Lib/Pipeline/FrameBody.lean `View.canon`; the payloads are the skeleton's and the values stated above). -/
def out2_5 (x0 : Vec F S2048x256 .f32) (x1 : Vec F S256x2048 .i8) (x2 : Vec F S256x16 .f32) (x3 : Vec F S256x2048 .i8) (x4 : Vec F S256x16 .f32) : Vec F S256x2048 .f32 :=
  View.canon [⟨r2_31, k2_pay162 (k2_pay220 x0 x1 x2 x3 x4) (k2_pay221 x0 x1 x2 x3 x4) (View.ld x3 r2_31) (View.ld x4 r2_32)⟩,
    ⟨r2_29, k2_pay149 (k2_pay215 x0 x1 x2 x3 x4) (View.ld x1 r2_29) (View.ld x2 r2_30) (View.ld x3 r2_29) (View.ld x4 r2_30)⟩,
    ⟨r2_27, k2_pay140 (k2_pay170 x0 x1 x2 x3 x4) (View.ld x1 r2_27) (View.ld x2 r2_28) (View.ld x3 r2_27) (View.ld x4 r2_28)⟩,
    ⟨r2_25, k2_pay132 (k2_pay129 (k2_pay170 x0 x1 x2 x3 x4) (View.ld x1 r2_25) (View.ld x2 r2_26)) (k2_pay130 (k2_pay170 x0 x1 x2 x3 x4) (View.ld x3 r2_25) (View.ld x4 r2_26)) (k2_pay131 (F := F))⟩,
    ⟨r2_23, k2_pay120 (k2_pay209 x0 x1 x2 x3 x4) (k2_pay210 x0 x1 x2 x3 x4)⟩,
    ⟨r2_21, k2_pay111 (k2_pay204 x0 x1 x2 x3 x4) (k2_pay205 x0 x1 x2 x3 x4) (k2_pay206 x0 x1 x2 x3 x4) (k2_pay207 x0 x1 x2 x3 x4)⟩,
    ⟨r2_19, k2_pay100 (k2_pay200 x0 x1 x2 x3 x4) (k2_pay201 x0 x1 x2 x3 x4) (k2_pay202 x0 x1 x2 x3 x4) (View.ld x4 r2_20)⟩,
    ⟨r2_17, k2_pay89 (k2_pay197 x0 x1 x2 x3 x4) (k2_pay198 x0 x1 x2 x3 x4) (View.ld x2 r2_18) (View.ld x3 r2_17) (View.ld x4 r2_18)⟩,
    ⟨r2_15, k2_pay77 (k2_pay170 x0 x1 x2 x3 x4) (View.ld x1 r2_15) (View.ld x2 r2_16) (View.ld x3 r2_15) (View.ld x4 r2_16)⟩,
    ⟨r2_13, k2_pay69 (k2_pay170 x0 x1 x2 x3 x4) (View.ld x1 r2_13) (View.ld x2 r2_14) (View.ld x3 r2_13) (View.ld x4 r2_14)⟩,
    ⟨r2_11, k2_pay60 (k2_pay58 (k2_pay170 x0 x1 x2 x3 x4) (View.ld x1 r2_11) (View.ld x2 r2_12)) (k2_pay59 (k2_pay170 x0 x1 x2 x3 x4) (View.ld x3 r2_11) (View.ld x4 r2_12))⟩,
    ⟨r2_9, k2_pay47 (k2_pay183 x0 x1 x2 x3 x4) (k2_pay184 x0 x1 x2 x3 x4) (k2_pay185 x0 x1 x2 x3 x4) (k2_pay186 x0 x1 x2 x3 x4)⟩,
    ⟨r2_7, k2_pay36 (k2_pay179 x0 x1 x2 x3 x4) (k2_pay180 x0 x1 x2 x3 x4) (k2_pay181 x0 x1 x2 x3 x4)⟩,
    ⟨r2_5, k2_pay26 (k2_pay176 x0 x1 x2 x3 x4) (k2_pay177 x0 x1 x2 x3 x4) (View.ld x3 r2_5) (View.ld x4 r2_6)⟩,
    ⟨r2_3, k2_pay16 (k2_pay174 x0 x1 x2 x3 x4) (View.ld x1 r2_3) (View.ld x2 r2_4) (View.ld x3 r2_3) (View.ld x4 r2_4)⟩,
    ⟨r2_1, k2_pay6 (View.ld x0 r2_0) (View.ld x1 r2_1) (View.ld x2 r2_2) (View.ld x3 r2_1) (View.ld x4 r2_2)⟩]

/-- Its stores tile the buffer (checked by evaluation), so they cover it. -/
theorem cover2_5 (p0 : Vec F S256x128 .f32) (p1 : Vec F S256x128 .f32) (p2 : Vec F S256x128 .f32) (p3 : Vec F S256x128 .f32) (p4 : Vec F S256x128 .f32) (p5 : Vec F S256x128 .f32) (p6 : Vec F S256x128 .f32) (p7 : Vec F S256x128 .f32) (p8 : Vec F S256x128 .f32) (p9 : Vec F S256x128 .f32) (p10 : Vec F S256x128 .f32) (p11 : Vec F S256x128 .f32) (p12 : Vec F S256x128 .f32) (p13 : Vec F S256x128 .f32) (p14 : Vec F S256x128 .f32) (p15 : Vec F S256x128 .f32) (y : S256x2048.Idx) :
    ∃ pc ∈ ([⟨r2_31, p0⟩, ⟨r2_29, p1⟩, ⟨r2_27, p2⟩, ⟨r2_25, p3⟩, ⟨r2_23, p4⟩, ⟨r2_21, p5⟩, ⟨r2_19, p6⟩, ⟨r2_17, p7⟩, ⟨r2_15, p8⟩, ⟨r2_13, p9⟩, ⟨r2_11, p10⟩, ⟨r2_9, p11⟩, ⟨r2_7, p12⟩, ⟨r2_5, p13⟩, ⟨r2_3, p14⟩, ⟨r2_1, p15⟩] : List (View.Piece (Elt F) S256x2048 .f32)), y ∈ pc.1.set :=
  View.cover_of_tiled [⟨r2_31, p0⟩, ⟨r2_29, p1⟩, ⟨r2_27, p2⟩, ⟨r2_25, p3⟩, ⟨r2_23, p4⟩, ⟨r2_21, p5⟩, ⟨r2_19, p6⟩, ⟨r2_17, p7⟩, ⟨r2_15, p8⟩, ⟨r2_13, p9⟩, ⟨r2_11, p10⟩, ⟨r2_9, p11⟩, ⟨r2_7, p12⟩, ⟨r2_5, p13⟩, ⟨r2_3, p14⟩, ⟨r2_1, p15⟩] S256x128.size (by rfl) y

/-- Window 6's staging buffer after the body, from the input windows' blocks: its 16 stores as pieces, LAST
    FIRST (Lib/Pipeline/FrameBody.lean `View.canon`; the payloads are the skeleton's and the values stated above). -/
def out2_6 (x0 : Vec F S2048x256 .f32) (x1 : Vec F S256x2048 .i8) (x2 : Vec F S256x16 .f32) (x3 : Vec F S256x2048 .i8) (x4 : Vec F S256x16 .f32) : Vec F S256x2048 .i8 :=
  View.canon [⟨r2_31, k2_pay166 (k2_pay164 (k2_pay220 x0 x1 x2 x3 x4) (k2_pay221 x0 x1 x2 x3 x4)) (k2_pay165 (F := F))⟩,
    ⟨r2_29, k2_pay155 (k2_pay147 (k2_pay215 x0 x1 x2 x3 x4) (View.ld x1 r2_29) (View.ld x2 r2_30)) (k2_pay217 x0 x1 x2 x3 x4) (k2_pay218 x0 x1 x2 x3 x4) (k2_pay219 x0 x1 x2 x3 x4)⟩,
    ⟨r2_27, k2_pay143 (k2_pay138 (k2_pay170 x0 x1 x2 x3 x4) (View.ld x1 r2_27) (View.ld x2 r2_28)) (k2_pay214 x0 x1 x2 x3 x4)⟩,
    ⟨r2_25, k2_pay134 (k2_pay211 x0 x1 x2 x3 x4)⟩,
    ⟨r2_23, k2_pay122 (k2_pay209 x0 x1 x2 x3 x4)⟩,
    ⟨r2_21, k2_pay113 (k2_pay206 x0 x1 x2 x3 x4) (k2_pay207 x0 x1 x2 x3 x4)⟩,
    ⟨r2_19, k2_pay102 (k2_pay200 x0 x1 x2 x3 x4) (k2_pay201 x0 x1 x2 x3 x4)⟩,
    ⟨r2_17, k2_pay92 (k2_pay91 (k2_pay197 x0 x1 x2 x3 x4) (k2_pay198 x0 x1 x2 x3 x4) (View.ld x2 r2_18)) (Scalar.ofBits .f32 0xC2FE0000#32) (Scalar.ofBits .f32 0x42FE0000#32)⟩,
    ⟨r2_15, k2_pay82 (k2_pay75 (k2_pay170 x0 x1 x2 x3 x4) (View.ld x1 r2_15) (View.ld x2 r2_16)) (k2_pay194 x0 x1 x2 x3 x4) (k2_pay195 x0 x1 x2 x3 x4) (k2_pay196 x0 x1 x2 x3 x4)⟩,
    ⟨r2_13, k2_pay71 (k2_pay191 x0 x1 x2 x3 x4)⟩,
    ⟨r2_11, k2_pay62 (k2_pay189 x0 x1 x2 x3 x4)⟩,
    ⟨r2_9, k2_pay49 (k2_pay184 x0 x1 x2 x3 x4)⟩,
    ⟨r2_7, k2_pay38 (k2_pay179 x0 x1 x2 x3 x4) (k2_pay181 x0 x1 x2 x3 x4)⟩,
    ⟨r2_5, k2_pay28 (k2_pay176 x0 x1 x2 x3 x4) (k2_pay177 x0 x1 x2 x3 x4)⟩,
    ⟨r2_3, k2_pay19 (k2_pay18 (k2_pay174 x0 x1 x2 x3 x4) (View.ld x1 r2_3) (View.ld x2 r2_4))⟩,
    ⟨r2_1, k2_pay10 (k2_pay4 (View.ld x0 r2_0) (View.ld x1 r2_1) (View.ld x2 r2_2)) (k2_pay172 x0 x1 x2 x3 x4) (k2_pay173 x0 x1 x2 x3 x4)⟩]

/-- Its stores tile the buffer (checked by evaluation), so they cover it. -/
theorem cover2_6 (p0 : Vec F S256x128 .i8) (p1 : Vec F S256x128 .i8) (p2 : Vec F S256x128 .i8) (p3 : Vec F S256x128 .i8) (p4 : Vec F S256x128 .i8) (p5 : Vec F S256x128 .i8) (p6 : Vec F S256x128 .i8) (p7 : Vec F S256x128 .i8) (p8 : Vec F S256x128 .i8) (p9 : Vec F S256x128 .i8) (p10 : Vec F S256x128 .i8) (p11 : Vec F S256x128 .i8) (p12 : Vec F S256x128 .i8) (p13 : Vec F S256x128 .i8) (p14 : Vec F S256x128 .i8) (p15 : Vec F S256x128 .i8) (y : S256x2048.Idx) :
    ∃ pc ∈ ([⟨r2_31, p0⟩, ⟨r2_29, p1⟩, ⟨r2_27, p2⟩, ⟨r2_25, p3⟩, ⟨r2_23, p4⟩, ⟨r2_21, p5⟩, ⟨r2_19, p6⟩, ⟨r2_17, p7⟩, ⟨r2_15, p8⟩, ⟨r2_13, p9⟩, ⟨r2_11, p10⟩, ⟨r2_9, p11⟩, ⟨r2_7, p12⟩, ⟨r2_5, p13⟩, ⟨r2_3, p14⟩, ⟨r2_1, p15⟩] : List (View.Piece (Elt F) S256x2048 .i8)), y ∈ pc.1.set :=
  View.cover_of_tiled [⟨r2_31, p0⟩, ⟨r2_29, p1⟩, ⟨r2_27, p2⟩, ⟨r2_25, p3⟩, ⟨r2_23, p4⟩, ⟨r2_21, p5⟩, ⟨r2_19, p6⟩, ⟨r2_17, p7⟩, ⟨r2_15, p8⟩, ⟨r2_13, p9⟩, ⟨r2_11, p10⟩, ⟨r2_9, p11⟩, ⟨r2_7, p12⟩, ⟨r2_5, p13⟩, ⟨r2_3, p14⟩, ⟨r2_1, p15⟩] S256x128.size (by rfl) y

/-- Window 7's staging buffer after the body, from the input windows' blocks: its 16 stores as pieces, LAST
    FIRST (Lib/Pipeline/FrameBody.lean `View.canon`; the payloads are the skeleton's and the values stated above). -/
def out2_7 (x0 : Vec F S2048x256 .f32) (x1 : Vec F S256x2048 .i8) (x2 : Vec F S256x16 .f32) (x3 : Vec F S256x2048 .i8) (x4 : Vec F S256x16 .f32) : Vec F S256x16 .f32 :=
  View.canon [⟨r2_32, k2_pay163 (k2_pay220 x0 x1 x2 x3 x4) (k2_pay221 x0 x1 x2 x3 x4)⟩,
    ⟨r2_30, k2_pay154 (k2_pay217 x0 x1 x2 x3 x4) (k2_pay218 x0 x1 x2 x3 x4) (k2_pay219 x0 x1 x2 x3 x4)⟩,
    ⟨r2_28, k2_pay142 (k2_pay214 x0 x1 x2 x3 x4)⟩,
    ⟨r2_26, k2_pay133 (k2_pay211 x0 x1 x2 x3 x4)⟩,
    ⟨r2_24, k2_pay121 (k2_pay209 x0 x1 x2 x3 x4)⟩,
    ⟨r2_22, k2_pay112 (k2_pay206 x0 x1 x2 x3 x4) (k2_pay207 x0 x1 x2 x3 x4)⟩,
    ⟨r2_20, k2_pay101 (k2_pay200 x0 x1 x2 x3 x4) (k2_pay201 x0 x1 x2 x3 x4)⟩,
    ⟨r2_18, k2_pay90 (k2_pay197 x0 x1 x2 x3 x4) (k2_pay198 x0 x1 x2 x3 x4) (View.ld x2 r2_18)⟩,
    ⟨r2_16, k2_pay81 (k2_pay194 x0 x1 x2 x3 x4) (k2_pay195 x0 x1 x2 x3 x4) (k2_pay196 x0 x1 x2 x3 x4)⟩,
    ⟨r2_14, k2_pay70 (k2_pay191 x0 x1 x2 x3 x4)⟩,
    ⟨r2_12, k2_pay61 (k2_pay189 x0 x1 x2 x3 x4)⟩,
    ⟨r2_10, k2_pay48 (k2_pay184 x0 x1 x2 x3 x4)⟩,
    ⟨r2_8, k2_pay37 (k2_pay179 x0 x1 x2 x3 x4) (k2_pay181 x0 x1 x2 x3 x4)⟩,
    ⟨r2_6, k2_pay27 (k2_pay176 x0 x1 x2 x3 x4) (k2_pay177 x0 x1 x2 x3 x4)⟩,
    ⟨r2_4, k2_pay17 (k2_pay174 x0 x1 x2 x3 x4) (View.ld x1 r2_3) (View.ld x2 r2_4)⟩,
    ⟨r2_2, k2_pay9 (k2_pay172 x0 x1 x2 x3 x4) (k2_pay173 x0 x1 x2 x3 x4)⟩]

/-- Its stores tile the buffer (checked by evaluation), so they cover it. -/
theorem cover2_7 (p0 : Vec F S256x1 .f32) (p1 : Vec F S256x1 .f32) (p2 : Vec F S256x1 .f32) (p3 : Vec F S256x1 .f32) (p4 : Vec F S256x1 .f32) (p5 : Vec F S256x1 .f32) (p6 : Vec F S256x1 .f32) (p7 : Vec F S256x1 .f32) (p8 : Vec F S256x1 .f32) (p9 : Vec F S256x1 .f32) (p10 : Vec F S256x1 .f32) (p11 : Vec F S256x1 .f32) (p12 : Vec F S256x1 .f32) (p13 : Vec F S256x1 .f32) (p14 : Vec F S256x1 .f32) (p15 : Vec F S256x1 .f32) (y : S256x16.Idx) :
    ∃ pc ∈ ([⟨r2_32, p0⟩, ⟨r2_30, p1⟩, ⟨r2_28, p2⟩, ⟨r2_26, p3⟩, ⟨r2_24, p4⟩, ⟨r2_22, p5⟩, ⟨r2_20, p6⟩, ⟨r2_18, p7⟩, ⟨r2_16, p8⟩, ⟨r2_14, p9⟩, ⟨r2_12, p10⟩, ⟨r2_10, p11⟩, ⟨r2_8, p12⟩, ⟨r2_6, p13⟩, ⟨r2_4, p14⟩, ⟨r2_2, p15⟩] : List (View.Piece (Elt F) S256x16 .f32)), y ∈ pc.1.set :=
  View.cover_of_tiled [⟨r2_32, p0⟩, ⟨r2_30, p1⟩, ⟨r2_28, p2⟩, ⟨r2_26, p3⟩, ⟨r2_24, p4⟩, ⟨r2_22, p5⟩, ⟨r2_20, p6⟩, ⟨r2_18, p7⟩, ⟨r2_16, p8⟩, ⟨r2_14, p9⟩, ⟨r2_12, p10⟩, ⟨r2_10, p11⟩, ⟨r2_8, p12⟩, ⟨r2_6, p13⟩, ⟨r2_4, p14⟩, ⟨r2_2, p15⟩] S256x1.size (by rfl) y

/-- Window 8's staging buffer after the body, from the input windows' blocks: its 16 stores as pieces, LAST
    FIRST (Lib/Pipeline/FrameBody.lean `View.canon`; the payloads are the skeleton's and the values stated above). -/
def out2_8 (x0 : Vec F S2048x256 .f32) (x1 : Vec F S256x2048 .i8) (x2 : Vec F S256x16 .f32) (x3 : Vec F S256x2048 .i8) (x4 : Vec F S256x16 .f32) : Vec F S256x2048 .i8 :=
  View.canon [⟨r2_31, k2_pay1 (k2_pay168 (k2_pay222 x0 x1 x2 x3 x4)) (k2_pay169 (F := F))⟩,
    ⟨r2_29, k2_pay157 (k2_pay216 x0 x1 x2 x3 x4)⟩,
    ⟨r2_27, k2_pay145 (k2_pay213 x0 x1 x2 x3 x4)⟩,
    ⟨r2_25, k2_pay136 (k2_pay212 x0 x1 x2 x3 x4)⟩,
    ⟨r2_23, k2_pay125 (k2_pay210 x0 x1 x2 x3 x4) (k2_pay124 (k2_pay210 x0 x1 x2 x3 x4))⟩,
    ⟨r2_21, k2_pay116 (k2_pay110 (k2_pay204 x0 x1 x2 x3 x4) (k2_pay205 x0 x1 x2 x3 x4)) (k2_pay208 x0 x1 x2 x3 x4) (Scalar.ofBits .f32 0x00000000#32)⟩,
    ⟨r2_19, k2_pay104 (k2_pay203 x0 x1 x2 x3 x4)⟩,
    ⟨r2_17, k2_pay94 (k2_pay199 x0 x1 x2 x3 x4)⟩,
    ⟨r2_15, k2_pay84 (k2_pay193 x0 x1 x2 x3 x4)⟩,
    ⟨r2_13, k2_pay73 (k2_pay192 x0 x1 x2 x3 x4)⟩,
    ⟨r2_11, k2_pay65 (Scalar.ofBits .f32 0x42FE0000#32) (k2_pay64 (k2_pay190 x0 x1 x2 x3 x4))⟩,
    ⟨r2_9, k2_pay54 (k2_pay46 (k2_pay183 x0 x1 x2 x3 x4) (k2_pay185 x0 x1 x2 x3 x4) (k2_pay186 x0 x1 x2 x3 x4)) (k2_pay187 x0 x1 x2 x3 x4) (k2_pay188 x0 x1 x2 x3 x4) (Scalar.ofBits .f32 0x3F800000#32)⟩,
    ⟨r2_7, k2_pay41 (k2_pay35 (k2_pay179 x0 x1 x2 x3 x4) (k2_pay180 x0 x1 x2 x3 x4)) (k2_pay182 x0 x1 x2 x3 x4)⟩,
    ⟨r2_5, k2_pay30 (k2_pay178 x0 x1 x2 x3 x4)⟩,
    ⟨r2_3, k2_pay21 (k2_pay175 x0 x1 x2 x3 x4)⟩,
    ⟨r2_1, k2_pay12 (k2_pay171 x0 x1 x2 x3 x4)⟩]

/-- Its stores tile the buffer (checked by evaluation), so they cover it. -/
theorem cover2_8 (p0 : Vec F S256x128 .i8) (p1 : Vec F S256x128 .i8) (p2 : Vec F S256x128 .i8) (p3 : Vec F S256x128 .i8) (p4 : Vec F S256x128 .i8) (p5 : Vec F S256x128 .i8) (p6 : Vec F S256x128 .i8) (p7 : Vec F S256x128 .i8) (p8 : Vec F S256x128 .i8) (p9 : Vec F S256x128 .i8) (p10 : Vec F S256x128 .i8) (p11 : Vec F S256x128 .i8) (p12 : Vec F S256x128 .i8) (p13 : Vec F S256x128 .i8) (p14 : Vec F S256x128 .i8) (p15 : Vec F S256x128 .i8) (y : S256x2048.Idx) :
    ∃ pc ∈ ([⟨r2_31, p0⟩, ⟨r2_29, p1⟩, ⟨r2_27, p2⟩, ⟨r2_25, p3⟩, ⟨r2_23, p4⟩, ⟨r2_21, p5⟩, ⟨r2_19, p6⟩, ⟨r2_17, p7⟩, ⟨r2_15, p8⟩, ⟨r2_13, p9⟩, ⟨r2_11, p10⟩, ⟨r2_9, p11⟩, ⟨r2_7, p12⟩, ⟨r2_5, p13⟩, ⟨r2_3, p14⟩, ⟨r2_1, p15⟩] : List (View.Piece (Elt F) S256x2048 .i8)), y ∈ pc.1.set :=
  View.cover_of_tiled [⟨r2_31, p0⟩, ⟨r2_29, p1⟩, ⟨r2_27, p2⟩, ⟨r2_25, p3⟩, ⟨r2_23, p4⟩, ⟨r2_21, p5⟩, ⟨r2_19, p6⟩, ⟨r2_17, p7⟩, ⟨r2_15, p8⟩, ⟨r2_13, p9⟩, ⟨r2_11, p10⟩, ⟨r2_9, p11⟩, ⟨r2_7, p12⟩, ⟨r2_5, p13⟩, ⟨r2_3, p14⟩, ⟨r2_1, p15⟩] S256x128.size (by rfl) y

/-- Window 9's staging buffer after the body, from the input windows' blocks: its 16 stores as pieces, LAST
    FIRST (Lib/Pipeline/FrameBody.lean `View.canon`; the payloads are the skeleton's and the values stated above). -/
def out2_9 (x0 : Vec F S2048x256 .f32) (x1 : Vec F S256x2048 .i8) (x2 : Vec F S256x16 .f32) (x3 : Vec F S256x2048 .i8) (x4 : Vec F S256x16 .f32) : Vec F S256x16 .f32 :=
  View.canon [⟨r2_32, k2_pay167 (k2_pay222 x0 x1 x2 x3 x4)⟩,
    ⟨r2_30, k2_pay156 (k2_pay216 x0 x1 x2 x3 x4)⟩,
    ⟨r2_28, k2_pay144 (k2_pay213 x0 x1 x2 x3 x4)⟩,
    ⟨r2_26, k2_pay135 (k2_pay212 x0 x1 x2 x3 x4)⟩,
    ⟨r2_24, k2_pay123 (k2_pay210 x0 x1 x2 x3 x4)⟩,
    ⟨r2_22, k2_pay115 (k2_pay208 x0 x1 x2 x3 x4) (Scalar.ofBits .f32 0x00000000#32)⟩,
    ⟨r2_20, k2_pay103 (k2_pay203 x0 x1 x2 x3 x4)⟩,
    ⟨r2_18, k2_pay93 (k2_pay199 x0 x1 x2 x3 x4)⟩,
    ⟨r2_16, k2_pay83 (k2_pay193 x0 x1 x2 x3 x4)⟩,
    ⟨r2_14, k2_pay72 (k2_pay192 x0 x1 x2 x3 x4)⟩,
    ⟨r2_12, k2_pay63 (k2_pay190 x0 x1 x2 x3 x4)⟩,
    ⟨r2_10, k2_pay53 (k2_pay187 x0 x1 x2 x3 x4) (k2_pay188 x0 x1 x2 x3 x4) (Scalar.ofBits .f32 0x3F800000#32)⟩,
    ⟨r2_8, k2_pay40 (k2_pay182 x0 x1 x2 x3 x4)⟩,
    ⟨r2_6, k2_pay29 (k2_pay178 x0 x1 x2 x3 x4)⟩,
    ⟨r2_4, k2_pay20 (k2_pay175 x0 x1 x2 x3 x4)⟩,
    ⟨r2_2, k2_pay11 (k2_pay171 x0 x1 x2 x3 x4)⟩]

/-- Its stores tile the buffer (checked by evaluation), so they cover it. -/
theorem cover2_9 (p0 : Vec F S256x1 .f32) (p1 : Vec F S256x1 .f32) (p2 : Vec F S256x1 .f32) (p3 : Vec F S256x1 .f32) (p4 : Vec F S256x1 .f32) (p5 : Vec F S256x1 .f32) (p6 : Vec F S256x1 .f32) (p7 : Vec F S256x1 .f32) (p8 : Vec F S256x1 .f32) (p9 : Vec F S256x1 .f32) (p10 : Vec F S256x1 .f32) (p11 : Vec F S256x1 .f32) (p12 : Vec F S256x1 .f32) (p13 : Vec F S256x1 .f32) (p14 : Vec F S256x1 .f32) (p15 : Vec F S256x1 .f32) (y : S256x16.Idx) :
    ∃ pc ∈ ([⟨r2_32, p0⟩, ⟨r2_30, p1⟩, ⟨r2_28, p2⟩, ⟨r2_26, p3⟩, ⟨r2_24, p4⟩, ⟨r2_22, p5⟩, ⟨r2_20, p6⟩, ⟨r2_18, p7⟩, ⟨r2_16, p8⟩, ⟨r2_14, p9⟩, ⟨r2_12, p10⟩, ⟨r2_10, p11⟩, ⟨r2_8, p12⟩, ⟨r2_6, p13⟩, ⟨r2_4, p14⟩, ⟨r2_2, p15⟩] : List (View.Piece (Elt F) S256x16 .f32)), y ∈ pc.1.set :=
  View.cover_of_tiled [⟨r2_32, p0⟩, ⟨r2_30, p1⟩, ⟨r2_28, p2⟩, ⟨r2_26, p3⟩, ⟨r2_24, p4⟩, ⟨r2_22, p5⟩, ⟨r2_20, p6⟩, ⟨r2_18, p7⟩, ⟨r2_16, p8⟩, ⟨r2_14, p9⟩, ⟨r2_12, p10⟩, ⟨r2_10, p11⟩, ⟨r2_8, p12⟩, ⟨r2_6, p13⟩, ⟨r2_4, p14⟩, ⟨r2_2, p15⟩] S256x1.size (by rfl) y

/-! ## The body's triple -/

set_option maxHeartbeats 1292000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (arg0 : Memref sig .tc .vmem S2048x256 .f32) (harg0 : arg0.IsWhole) (arg1 : Memref sig .tc .vmem S256x2048 .i8) (harg1 : arg1.IsWhole) (arg2 : Memref sig .tc .vmem S256x16 .f32) (harg2 : arg2.IsWhole) (arg3 : Memref sig .tc .vmem S256x2048 .i8) (harg3 : arg3.IsWhole) (arg4 : Memref sig .tc .vmem S256x16 .f32) (harg4 : arg4.IsWhole) (arg5 : Memref sig .tc .vmem S256x2048 .f32) (harg5 : arg5.IsWhole) (arg6 : Memref sig .tc .vmem S256x2048 .i8) (harg6 : arg6.IsWhole) (arg7 : Memref sig .tc .vmem S256x16 .f32) (harg7 : arg7.IsWhole) (arg8 : Memref sig .tc .vmem S256x2048 .i8) (harg8 : arg8.IsWhole) (arg9 : Memref sig .tc .vmem S256x16 .f32) (harg9 : arg9.IsWhole)
    (x0 : Vec F S2048x256 .f32) (x1 : Vec F S256x2048 .i8) (x2 : Vec F S256x16 .f32) (x3 : Vec F S256x2048 .i8) (x4 : Vec F S256x16 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4) ∗ owns (c : Thread nD τ) arg6 fullShare (out2_6 x0 x1 x2 x3 x4) ∗ owns (c : Thread nD τ) arg7 fullShare (out2_7 x0 x1 x2 x3 x4) ∗ owns (c : Thread nD τ) arg8 fullShare (out2_8 x0 x1 x2 x3 x4) ∗ owns (c : Thread nD τ) arg9 fullShare (out2_9 x0 x1 x2 x3 x4)) -∗ K ⟨⟩))
      ⊢ wp frame (wpE (defs₀ (F := F)) Variants.none c none) E (cc2_adam arg0 harg0 arg1 harg1 arg2 harg2 arg3 harg3 arg4 harg4 arg5 harg5 arg6 harg6 arg7 harg7 arg8 harg8 arg9 harg9) K := by
  simp only [cc2_adam_eq_skeleton]; unfold cc2_adam_skel
  simp only [k2_part30_eq_skeleton, k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton, k2_part18_eq_skeleton, k2_part19_eq_skeleton, k2_part20_eq_skeleton, k2_part21_eq_skeleton, k2_part22_eq_skeleton, k2_part23_eq_skeleton, k2_part24_eq_skeleton, k2_part25_eq_skeleton, k2_part26_eq_skeleton, k2_part27_eq_skeleton, k2_part28_eq_skeleton, k2_part29_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover2_5 _ _ _ _ _ _ _ _ _ _ _ _ _ _ _ _)).trans ?_
    rfl
  isplitl [H6]
  · iexists _; isplitr
    swap; · iexact H6
    ipureintro
    refine (View.read_writes_eq_canon _ _ _ (cover2_6 _ _ _ _ _ _ _ _ _ _ _ _ _ _ _ _)).trans ?_
    rfl
  isplitl [H7]
  · iexists _; isplitr
    swap; · iexact H7
    ipureintro
    refine (View.read_writes_eq_canon _ _ _ (cover2_7 _ _ _ _ _ _ _ _ _ _ _ _ _ _ _ _)).trans ?_
    rfl
  isplitl [H8]
  · iexists _; isplitr
    swap; · iexact H8
    ipureintro
    refine (View.read_writes_eq_canon _ _ _ (cover2_8 _ _ _ _ _ _ _ _ _ _ _ _ _ _ _ _)).trans ?_
    rfl
  iexists _; isplitr
  swap; · iexact H9
  ipureintro
  refine (View.read_writes_eq_canon _ _ _ (cover2_9 _ _ _ _ _ _ _ _ _ _ _ _ _ _ _ _)).trans ?_
  rfl

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
    | ⟨6, _⟩ => out2_6 (iblk2 V c 0 t) (iblk2 V c 1 t) (iblk2 V c 2 t) (iblk2 V c 3 t) (iblk2 V c 4 t)
    | ⟨7, _⟩ => out2_7 (iblk2 V c 0 t) (iblk2 V c 1 t) (iblk2 V c 2 t) (iblk2 V c 3 t) (iblk2 V c 4 t)
    | ⟨8, _⟩ => out2_8 (iblk2 V c 0 t) (iblk2 V c 1 t) (iblk2 V c 2 t) (iblk2 V c 3 t) (iblk2 V c 4 t)
    | ⟨9, _⟩ => out2_9 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
/-- What window 1 of the Adam call holds after a grid point. -/
theorem after2_1 (c : Dev nD) (t : Fin cfg2.N) : (dat2 V c).after 1 t = iblk2 V c 1 t := by dsimp only [dat2]
/-- What window 2 of the Adam call holds after a grid point. -/
theorem after2_2 (c : Dev nD) (t : Fin cfg2.N) : (dat2 V c).after 2 t = iblk2 V c 2 t := by dsimp only [dat2]
/-- What window 3 of the Adam call holds after a grid point. -/
theorem after2_3 (c : Dev nD) (t : Fin cfg2.N) : (dat2 V c).after 3 t = iblk2 V c 3 t := by dsimp only [dat2]
/-- What window 4 of the Adam call holds after a grid point. -/
theorem after2_4 (c : Dev nD) (t : Fin cfg2.N) : (dat2 V c).after 4 t = iblk2 V c 4 t := by dsimp only [dat2]
/-- What window 5 of the Adam call holds after a grid point. -/
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]
/-- What window 6 of the Adam call holds after a grid point. -/
theorem after2_6 (c : Dev nD) (t : Fin cfg2.N) : (dat2 V c).after 6 t = out2_6 (iblk2 V c 0 t) (iblk2 V c 1 t) (iblk2 V c 2 t) (iblk2 V c 3 t) (iblk2 V c 4 t) := by dsimp only [dat2]
/-- What window 7 of the Adam call holds after a grid point. -/
theorem after2_7 (c : Dev nD) (t : Fin cfg2.N) : (dat2 V c).after 7 t = out2_7 (iblk2 V c 0 t) (iblk2 V c 1 t) (iblk2 V c 2 t) (iblk2 V c 3 t) (iblk2 V c 4 t) := by dsimp only [dat2]
/-- What window 8 of the Adam call holds after a grid point. -/
theorem after2_8 (c : Dev nD) (t : Fin cfg2.N) : (dat2 V c).after 8 t = out2_8 (iblk2 V c 0 t) (iblk2 V c 1 t) (iblk2 V c 2 t) (iblk2 V c 3 t) (iblk2 V c 4 t) := by dsimp only [dat2]
/-- What window 9 of the Adam call holds after a grid point. -/
theorem after2_9 (c : Dev nD) (t : Fin cfg2.N) : (dat2 V c).after 9 t = out2_9 (iblk2 V c 0 t) (iblk2 V c 1 t) (iblk2 V c 2 t) (iblk2 V c 3 t) (iblk2 V c 4 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
/-- Window 1 of the Adam call holds its block before a grid point. -/
theorem before2_1 (c : Dev nD) (t : Fin cfg2.N) (d) : (dat2 V c).before 1 t d = iblk2 V c 1 t :=
  before2_1_of V (dat2 V c) (A_eq2 V c 1) (after2_1 V c) t d
/-- Window 2 of the Adam call holds its block before a grid point. -/
theorem before2_2 (c : Dev nD) (t : Fin cfg2.N) (d) : (dat2 V c).before 2 t d = iblk2 V c 2 t :=
  before2_2_of V (dat2 V c) (A_eq2 V c 2) (after2_2 V c) t d
/-- Window 3 of the Adam call holds its block before a grid point. -/
theorem before2_3 (c : Dev nD) (t : Fin cfg2.N) (d) : (dat2 V c).before 3 t d = iblk2 V c 3 t :=
  before2_3_of V (dat2 V c) (A_eq2 V c 3) (after2_3 V c) t d
/-- Window 4 of the Adam call holds its block before a grid point. -/
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Run

end
-- ==== Proof.KI.Region3.lean ====
/- The weight-update call as one region: what its body leaves, the proof data of its pipeline and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 3 of @main: custom_call 3, `cc3_update` (pipeline 3), at the entry contents `V` -/

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S256x256 := Rect.unit (s := S256x256) ![0, 0] S256x256.size inb_S256x256_S256x256_0_0
abbrev r3_1 : Rect S256x2048 := Rect.unit (s := S256x2048) ![0, 0] S256x2048.size inb_S256x2048_S256x2048_0_0
abbrev r3_2 : Rect S256x1 := Rect.unit (s := S256x1) ![0, 0] S256x1.size inb_S256x1_S256x1_0_0

/-! ## What the body leaves in each output window's buffer -/

/-- Window 5's staging buffer after the body, from the input windows' blocks: its 1 store as pieces, LAST
    FIRST (Lib/Pipeline/FrameBody.lean `View.canon`; the payloads are the skeleton's). -/
def out3_5 (x0 : Vec F S256x256 .bf16) (x1 : Vec F S256x2048 .f32) (x2 : Vec F S256x2048 .i8) (x3 : Vec F S256x1 .f32) (x4 : Vec F S256x2048 .i8) : Vec F S256x2048 .i8 :=
  View.canon [⟨r3_1, k3_pay1 (k3_pay5 (View.ld x0 r3_0) (View.ld x1 r3_1) (View.ld x2 r3_1) (View.ld x3 r3_2) (View.ld x4 r3_1)) (Scalar.ofBits .f32 0xC2FE0000#32)⟩]

/-- Its stores tile the buffer (checked by evaluation), so they cover it. -/
theorem cover3_5 (p0 : Vec F S256x2048 .i8) (y : S256x2048.Idx) :
    ∃ pc ∈ ([⟨r3_1, p0⟩] : List (View.Piece (Elt F) S256x2048 .i8)), y ∈ pc.1.set :=
  View.cover_of_tiled [⟨r3_1, p0⟩] S256x2048.size (by rfl) y

/-- Window 6's staging buffer after the body, from the input windows' blocks: its 1 store as pieces, LAST
    FIRST (Lib/Pipeline/FrameBody.lean `View.canon`; the payloads are the skeleton's). -/
def out3_6 (x0 : Vec F S256x256 .bf16) (x1 : Vec F S256x2048 .f32) (x2 : Vec F S256x2048 .i8) (x3 : Vec F S256x1 .f32) (x4 : Vec F S256x2048 .i8) : Vec F S256x1 .f32 :=
  View.canon [⟨r3_2, k3_pay4 (View.ld x0 r3_0) (View.ld x1 r3_1) (View.ld x2 r3_1) (View.ld x3 r3_2)⟩]

/-- Its stores tile the buffer (checked by evaluation), so they cover it. -/
theorem cover3_6 (p0 : Vec F S256x1 .f32) (y : S256x1.Idx) :
    ∃ pc ∈ ([⟨r3_2, p0⟩] : List (View.Piece (Elt F) S256x1 .f32)), y ∈ pc.1.set :=
  View.cover_of_tiled [⟨r3_2, p0⟩] S256x1.size (by rfl) y

/-- Window 7's staging buffer after the body, from the input windows' blocks: its 1 store as pieces, LAST
    FIRST (Lib/Pipeline/FrameBody.lean `View.canon`; the payloads are the skeleton's). -/
def out3_7 (x0 : Vec F S256x256 .bf16) (x1 : Vec F S256x2048 .f32) (x2 : Vec F S256x2048 .i8) (x3 : Vec F S256x1 .f32) (x4 : Vec F S256x2048 .i8) : Vec F S256x2048 .f32 :=
  View.canon [⟨r3_1, k3_pay2 (View.ld x0 r3_0) (View.ld x1 r3_1)⟩]

/-- Its stores tile the buffer (checked by evaluation), so they cover it. -/
theorem cover3_7 (p0 : Vec F S256x2048 .f32) (y : S256x2048.Idx) :
    ∃ pc ∈ ([⟨r3_1, p0⟩] : List (View.Piece (Elt F) S256x2048 .f32)), y ∈ pc.1.set :=
  View.cover_of_tiled [⟨r3_1, p0⟩] S256x2048.size (by rfl) y

/-! ## The body's triple -/

set_option maxHeartbeats 1000000 in
/-- The kernel body on whole staging memrefs, the inputs' at read contents `xW` and the outputs' at anything, runs to
    the continuation holding the inputs' as they were and each output's at `out3_W` of the inputs': the printed functions
    are their skeletons (`Gen.*_eq_skeleton`), which `sl_exec` runs (Lib/Exec.lean), through every part call. -/
theorem sound_kernel3 (c : Dev nD) (E : Set ℕ) (i : grid3.Coords) (arg1 : Memref sig .tc .vmem S256x256 .bf16) (harg1 : arg1.IsWhole) (arg2 : Memref sig .tc .vmem S256x2048 .f32) (harg2 : arg2.IsWhole) (arg3 : Memref sig .tc .vmem S256x2048 .i8) (harg3 : arg3.IsWhole) (arg4 : Memref sig .tc .vmem S256x1 .f32) (harg4 : arg4.IsWhole) (arg5 : Memref sig .tc .vmem S256x2048 .i8) (harg5 : arg5.IsWhole) (arg6 : Memref sig .tc .vmem S256x2048 .i8) (harg6 : arg6.IsWhole) (arg7 : Memref sig .tc .vmem S256x1 .f32) (harg7 : arg7.IsWhole) (arg8 : Memref sig .tc .vmem S256x2048 .f32) (harg8 : arg8.IsWhole)
    (x0 : Vec F S256x256 .bf16) (x1 : Vec F S256x2048 .f32) (x2 : Vec F S256x2048 .i8) (x3 : Vec F S256x1 .f32) (x4 : Vec F S256x2048 .i8) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4) ∗ owns (c : Thread nD τ) arg7 fullShare (out3_6 x0 x1 x2 x3 x4) ∗ owns (c : Thread nD τ) arg8 fullShare (out3_7 x0 x1 x2 x3 x4)) -∗ K ⟨⟩))
      ⊢ wp frame (wpE (defs₀ (F := F)) Variants.none c none) E (cc3_update i arg1 harg1 arg2 harg2 arg3 harg3 arg4 harg4 arg5 harg5 arg6 harg6 arg7 harg7 arg8 harg8) K := by
  simp only [cc3_update_eq_skeleton]; unfold cc3_update_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover3_5 _)
  isplitl [H6]
  · iexists _; isplitr
    swap; · iexact H6
    ipureintro
    exact View.read_writes_eq_canon _ _ _ (cover3_6 _)
  iexists _; isplitr
  swap; · iexact H7
  ipureintro
  exact View.read_writes_eq_canon _ _ _ (cover3_7 _)

/-! ## The pipeline's proof data -/

/-- The proof data of pipeline 3 on core `c`: the arrays as the region finds them (`V`); after the body at
    point `t` each input's buffer at its block and each output's at `out3_W` of the input blocks; the invariant the
    class's (Lib/Pipeline/Frame.lean `ΦA`: the scoped rest and the generator register, untouched); nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
    | ⟨6, _⟩ => out3_6 (iblk3 V c 0 t) (iblk3 V c 1 t) (iblk3 V c 2 t) (iblk3 V c 3 t) (iblk3 V c 4 t)
    | ⟨7, _⟩ => out3_7 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`, never `rfl`: Lib/Pipeline.lean `Dat`). -/
theorem after3_0 (c : Dev nD) (t : Fin cfg3.N) : (dat3 V c).after 0 t = iblk3 V c 0 t := by dsimp only [dat3]
/-- What window 1 of the update call holds after a grid point. -/
theorem after3_1 (c : Dev nD) (t : Fin cfg3.N) : (dat3 V c).after 1 t = iblk3 V c 1 t := by dsimp only [dat3]
/-- What window 2 of the update call holds after a grid point. -/
theorem after3_2 (c : Dev nD) (t : Fin cfg3.N) : (dat3 V c).after 2 t = iblk3 V c 2 t := by dsimp only [dat3]
/-- What window 3 of the update call holds after a grid point. -/
theorem after3_3 (c : Dev nD) (t : Fin cfg3.N) : (dat3 V c).after 3 t = iblk3 V c 3 t := by dsimp only [dat3]
/-- What window 4 of the update call holds after a grid point. -/
theorem after3_4 (c : Dev nD) (t : Fin cfg3.N) : (dat3 V c).after 4 t = iblk3 V c 4 t := by dsimp only [dat3]
/-- What window 5 of the update call holds after a grid point. -/
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]
/-- What window 6 of the update call holds after a grid point. -/
theorem after3_6 (c : Dev nD) (t : Fin cfg3.N) : (dat3 V c).after 6 t = out3_6 (iblk3 V c 0 t) (iblk3 V c 1 t) (iblk3 V c 2 t) (iblk3 V c 3 t) (iblk3 V c 4 t) := by dsimp only [dat3]
/-- What window 7 of the update call holds after a grid point. -/
theorem after3_7 (c : Dev nD) (t : Fin cfg3.N) : (dat3 V c).after 7 t = out3_7 (iblk3 V c 0 t) (iblk3 V c 1 t) (iblk3 V c 2 t) (iblk3 V c 3 t) (iblk3 V c 4 t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
/-- Window 1 of the update call holds its block before a grid point. -/
theorem before3_1 (c : Dev nD) (t : Fin cfg3.N) (d) : (dat3 V c).before 1 t d = iblk3 V c 1 t :=
  before3_1_of V (dat3 V c) (A_eq3 V c 1) (after3_1 V c) t d
/-- Window 2 of the update call holds its block before a grid point. -/
theorem before3_2 (c : Dev nD) (t : Fin cfg3.N) (d) : (dat3 V c).before 2 t d = iblk3 V c 2 t :=
  before3_2_of V (dat3 V c) (A_eq3 V c 2) (after3_2 V c) t d
/-- Window 3 of the update call holds its block before a grid point. -/
theorem before3_3 (c : Dev nD) (t : Fin cfg3.N) (d) : (dat3 V c).before 3 t d = iblk3 V c 3 t :=
  before3_3_of V (dat3 V c) (A_eq3 V c 3) (after3_3 V c) t d
/-- Window 4 of the update call holds its block before a grid point. -/
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' memrefs hold their blocks (`before3_W`), so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ (grid3.coords t) _ _ _ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Run

end
-- ==== Proof.KI.Hosts0.lean ====
/- The host stretches between the calls: the references each writes, none of them an argument. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v7]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_v9]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays (checked: each argument against each reference it writes). -/
theorem hostOps4_args : ∀ a ∈ argRefs, a ∉ hostOps4_W := ListAll.forall_mem_of_all_decide (by decide +kernel)

end Cert.KernelIdeal.Run

end
-- ==== Proof.KI.Fold0.lean ====
/- The buffer contents at every boundary between the host stretches and the calls, as a fold from the launch memory. -/
module

public import proofs.«01_k».proof.Proof.KI.Region0
public import proofs.«01_k».proof.Proof.KI.Region1
public import proofs.«01_k».proof.Proof.KI.Region2
public import proofs.«01_k».proof.Proof.KI.Region3
public import proofs.«01_k».proof.Proof.KI.Hosts0

@[expose] public section

-- membership in a rectangle of production extents (`View.cover_of_tiled`): the elaborator's structural look
-- recurses once per coordinate of the long axes
set_option maxRecDepth 16384

noncomputable section

namespace Cert.KernelIdeal.Run

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
/-- The arguments are as launched at the start. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The arguments are as launched after the first host operations. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
/-- After the decode call each of its windows' arrays holds what the call leaves in it. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- The decode call leaves every array that is not one of its windows' as it was. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- The arguments are as launched after the decode call. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- The decode call leaves every other array as it was. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`) (region 2's entry). -/
def W3 (c : Dev nD) : Valuation τ sig (Elt F) :=
  Pipeline.withArrays spec1 c (W2 m ρ c) fun w => (dat1 (V2 m ρ) c).arrAt w cfg1.N
/-- After the project call each of its windows' arrays holds what the call leaves in it. -/
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
/-- The project call leaves every array that is not one of its windows' as it was. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- The arguments are as launched after the project call. -/
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
/-- The project call leaves every other array as it was. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec2 c (W3 m ρ c) fun w => (dat2 (V3 m ρ) c).arrAt w cfg2.N
/-- After the Adam call each of its windows' arrays holds what the call leaves in it. -/
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
/-- The Adam call leaves every array that is not one of its windows' as it was. -/
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A reference that is none of region 2's OUTPUT arrays keeps its entry contents across it: an input window's
    array is never written back (`Dat.arrAt_in`, `A_eq2`); any other buffer is left as is. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
/-- The arguments are as launched after the Adam call. -/
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V3 m ρ) c).arrAt w cfg2.N = V4 m ρ c (Pipeline.arrRef spec2 w) :=
  (W4_arr m ρ c w).symm
/-- The Adam call leaves every other array as it was. -/
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After `hostOps3` (region 3's entry). -/
abbrev W5 : Dev nD → Valuation τ sig (Elt F) := fun c => StableHlo.after hostOps3 (W4 m ρ c)
/-- A reference `hostOps3` does not write keeps its contents across it. -/
theorem W5_of (c : Dev nD) (r : Ref sig .tc) (h : r ∉ hostOps3_W) : W5 m ρ c (Proc.devRef .tc r) = W4 m ρ c (Proc.devRef .tc r) :=
  StableHlo.after_of_writes_sub hostOps3 _ hostOps3_writes h
/-- The arguments are as launched after the reshape before the update call. -/
theorem W5_args (c : Dev nD) : ∀ a ∈ argRefs, W5 m ρ c (Proc.devRef .tc a) = m ((c : Thread nD τ).loc a) :=
  fun a ha => (W5_of m ρ c a (hostOps3_args a ha)).trans (W4_args m ρ c a ha)
/-- The same read at the TensorCore's references (what region 3's proof data take). -/
abbrev V5 : (c : Dev nD) → (b : Ref sig .tc) → Buf (Elt F) ((c : Thread nD τ).loc b) := fun c b => W5 m ρ c b
/-- At region 3's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec3 c (W5 m ρ c) fun w => (dat3 (V5 m ρ) c).arrAt w cfg3.N
/-- After the update call each of its windows' arrays holds what the call leaves in it. -/
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
/-- The update call leaves every array that is not one of its windows' as it was. -/
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
/-- A reference that is none of region 3's OUTPUT arrays keeps its entry contents across it: an input window's
    array is never written back (`Dat.arrAt_in`, `A_eq3`); any other buffer is left as is. -/
theorem W6_of (c : Dev nD) (r : Ref sig .tc) (h : ∀ w : Fin cfg3.W, Pipeline.arrRef spec3 w = r → (cfg3.win w).isOut = false) :
    W6 m ρ c (Proc.devRef .tc r) = W5 m ρ c (Proc.devRef .tc r) := by
  by_cases hw : ∃ w : Fin cfg3.W, Pipeline.arrRef spec3 w = r
  · obtain ⟨w, rfl⟩ := hw
    exact (W6_arr m ρ c w).trans (((dat3 (V5 m ρ) c).arrAt_in w (h w rfl) _).trans (A_eq3 (V5 m ρ) c w))
  · exact W6_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
/-- The arguments are as launched after the update call. -/
theorem W6_args (c : Dev nD) : ∀ a ∈ argRefs, W6 m ρ c (Proc.devRef .tc a) = m ((c : Thread nD τ).loc a) :=
  fun a ha => (W6_of m ρ c a (argsIn3 a ha)).trans (W5_args m ρ c a ha)
/-- The same read at the TensorCore's references (region 3's exit contents). -/
abbrev V6 : (c : Dev nD) → (b : Ref sig .tc) → Buf (Elt F) ((c : Thread nD τ).loc b) := fun c b => W6 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V5 m ρ) c).arrAt w cfg3.N = V6 m ρ c (Pipeline.arrRef spec3 w) :=
  (W6_arr m ρ c w).symm
/-- The update call leaves every other array as it was. -/
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-- After `hostOps4`. -/
abbrev W7 : Dev nD → Valuation τ sig (Elt F) := fun c => StableHlo.after hostOps4 (W6 m ρ c)
/-- A reference `hostOps4` does not write keeps its contents across it. -/
theorem W7_of (c : Dev nD) (r : Ref sig .tc) (h : r ∉ hostOps4_W) : W7 m ρ c (Proc.devRef .tc r) = W6 m ρ c (Proc.devRef .tc r) :=
  StableHlo.after_of_writes_sub hostOps4 _ hostOps4_writes h
/-- The arguments are as launched after the last reshape. -/
theorem W7_args (c : Dev nD) : ∀ a ∈ argRefs, W7 m ρ c (Proc.devRef .tc a) = m ((c : Thread nD τ).loc a) :=
  fun a ha => (W7_of m ρ c a (hostOps4_args a ha)).trans (W6_args m ρ c a ha)

/-! ### The arguments end as launched: no host stretch writes one and no region may change one (a region reads it
    through an input window or bypasses it) -/

/-- Argument 0 ends as launched. -/
theorem W7_main_arg0 (c : Dev nD) : W7 m ρ c (Proc.devRef .tc main_arg0) = m ((c : Thread nD τ).loc main_arg0) :=
  W7_args m ρ c main_arg0 (by decide)
/-- Argument 1 ends as launched. -/
theorem W7_main_arg1 (c : Dev nD) : W7 m ρ c (Proc.devRef .tc main_arg1) = m ((c : Thread nD τ).loc main_arg1) :=
  W7_args m ρ c main_arg1 (by decide)
/-- Argument 2 ends as launched. -/
theorem W7_main_arg2 (c : Dev nD) : W7 m ρ c (Proc.devRef .tc main_arg2) = m ((c : Thread nD τ).loc main_arg2) :=
  W7_args m ρ c main_arg2 (by decide)
/-- Argument 3 ends as launched. -/
theorem W7_main_arg3 (c : Dev nD) : W7 m ρ c (Proc.devRef .tc main_arg3) = m ((c : Thread nD τ).loc main_arg3) :=
  W7_args m ρ c main_arg3 (by decide)
/-- Argument 4 ends as launched. -/
theorem W7_main_arg4 (c : Dev nD) : W7 m ρ c (Proc.devRef .tc main_arg4) = m ((c : Thread nD τ).loc main_arg4) :=
  W7_args m ρ c main_arg4 (by decide)
/-- Argument 5 ends as launched. -/
theorem W7_main_arg5 (c : Dev nD) : W7 m ρ c (Proc.devRef .tc main_arg5) = m ((c : Thread nD τ).loc main_arg5) :=
  W7_args m ρ c main_arg5 (by decide)
/-- Argument 6 ends as launched. -/
theorem W7_main_arg6 (c : Dev nD) : W7 m ρ c (Proc.devRef .tc main_arg6) = m ((c : Thread nD τ).loc main_arg6) :=
  W7_args m ρ c main_arg6 (by decide)
/-- Argument 7 ends as launched. -/
theorem W7_main_arg7 (c : Dev nD) : W7 m ρ c (Proc.devRef .tc main_arg7) = m ((c : Thread nD τ).loc main_arg7) :=
  W7_args m ρ c main_arg7 (by decide)
/-- Argument 8 ends as launched. -/
theorem W7_main_arg8 (c : Dev nD) : W7 m ρ c (Proc.devRef .tc main_arg8) = m ((c : Thread nD τ).loc main_arg8) :=
  W7_args m ρ c main_arg8 (by decide)
/-- Argument 9 ends as launched. -/
theorem W7_main_arg9 (c : Dev nD) : W7 m ρ c (Proc.devRef .tc main_arg9) = m ((c : Thread nD τ).loc main_arg9) :=
  W7_args m ρ c main_arg9 (by decide)
/-- Argument 10 ends as launched. -/
theorem W7_main_arg10 (c : Dev nD) : W7 m ρ c (Proc.devRef .tc main_arg10) = m ((c : Thread nD τ).loc main_arg10) :=
  W7_args m ρ c main_arg10 (by decide)
end Cert.KernelIdeal.Run

end
-- ==== Proof.KI.State.lean ====
/- The proof data of the four pipelines and the state that is handed from one segment to the next. -/
module

public import proofs.«01_k».proof.Proof.KI.Fold0

@[expose] public section

-- membership in a rectangle of production extents (`View.cover_of_tiled`): the elaborator's structural look
-- recurses once per coordinate of the long axes
set_option maxRecDepth 16384

noncomputable section

namespace Cert.KernelIdeal.Run

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

end Cert.KernelIdeal.Run

end
-- ==== Proof.KI.Record0.lean ====
/- The decode call as a segment of the program. -/
module

public import proofs.«01_k».proof.Proof.KI.State

@[expose] public section

-- membership in a rectangle of production extents (`View.cover_of_tiled`): the elaborator's structural look
-- recurses once per coordinate of the long axes
set_option maxRecDepth 16384

noncomputable section

namespace Cert.KernelIdeal.Run

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KI.Record1.lean ====
/- The projection call as a segment of the program. -/
module

public import proofs.«01_k».proof.Proof.KI.State

@[expose] public section

-- membership in a rectangle of production extents (`View.cover_of_tiled`): the elaborator's structural look
-- recurses once per coordinate of the long axes
set_option maxRecDepth 16384

noncomputable section

namespace Cert.KernelIdeal.Run

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (Pipeline.ΦA spec1 c : sProp 𝕄) ⊢ (pdats m ρ 1 c).Φ 0 := hin1 (V2 m ρ) c
    unfold Pipeline.ΦA at h1
    iintro ⟨Hp, -, Hr⟩
    iapply h1
    isplitl [Hr]; · iexact Hr
    iexact Hp
  hout c := by
    rw [Pipeline.ownSems0_none]
    have h1 : (pdats m ρ 1 c).Φ (Fin.last _) ⊢ (Pipeline.ΦA spec1 c : sProp 𝕄) := hout1 (V2 m ρ) c
    unfold Pipeline.ΦA at h1
    iintro H
    ihave H' := h1 $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KI.Record2.lean ====
/- The moment-update call as a segment of the program. -/
module

public import proofs.«01_k».proof.Proof.KI.State

@[expose] public section

-- membership in a rectangle of production extents (`View.cover_of_tiled`): the elaborator's structural look
-- recurses once per coordinate of the long axes
set_option maxRecDepth 16384

noncomputable section

namespace Cert.KernelIdeal.Run

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KI.Record3.lean ====
/- The weight-update call as a segment of the program. -/
module

public import proofs.«01_k».proof.Proof.KI.State

@[expose] public section

-- membership in a rectangle of production extents (`View.cover_of_tiled`): the elaborator's structural look
-- recurses once per coordinate of the long axes
set_option maxRecDepth 16384

noncomputable section

namespace Cert.KernelIdeal.Run

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 3 (custom_call 3) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) (A_eq3 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KI.Frame.lean ====
/- The whole program as its seven segments, its run, and the frame claim. -/
module

public import proofs.«01_k».proof.Proof.KI.Record0
public import proofs.«01_k».proof.Proof.KI.Record1
public import proofs.«01_k».proof.Proof.KI.Record2
public import proofs.«01_k».proof.Proof.KI.Record3

@[expose] public section

-- membership in a rectangle of production extents (`View.cover_of_tiled`): the elaborator's structural look
-- recurses once per coordinate of the long axes
set_option maxRecDepth 16384

noncomputable section

namespace Cert.KernelIdeal.Run

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 7 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)),
    .region (reg3 m ρ),
    .host (hseg hostOps4 hostOps4_sub hostOps4_fresh (W6 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution of the program terminates without a fault, every
    final state has every unscoped buffer at the last boundary's contents `W7`, and every semaphore counter is zero. -/
theorem run_main : θ_run defs (onTc (τ := τ) (main (F := F))) ⟨m, fun _ => 0, ρ⟩ (fun r => (∀ c : Dev nD, ∀ b ∈ Pipeline.ucRefs τ sig,
      r.2.mem (((c : Thread nD τ)).1, b) = W7 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

/-- THE FRAME: the argument arrays end as launched and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨(fun c =>
      ⟨(h.1 c _ (mem_uc main_arg0 (by decide))).trans (W7_main_arg0 m ρ c),
       (h.1 c _ (mem_uc main_arg1 (by decide))).trans (W7_main_arg1 m ρ c),
       (h.1 c _ (mem_uc main_arg2 (by decide))).trans (W7_main_arg2 m ρ c),
       (h.1 c _ (mem_uc main_arg3 (by decide))).trans (W7_main_arg3 m ρ c),
       (h.1 c _ (mem_uc main_arg4 (by decide))).trans (W7_main_arg4 m ρ c),
       (h.1 c _ (mem_uc main_arg5 (by decide))).trans (W7_main_arg5 m ρ c),
       (h.1 c _ (mem_uc main_arg6 (by decide))).trans (W7_main_arg6 m ρ c),
       (h.1 c _ (mem_uc main_arg7 (by decide))).trans (W7_main_arg7 m ρ c),
       (h.1 c _ (mem_uc main_arg8 (by decide))).trans (W7_main_arg8 m ρ c),
       (h.1 c _ (mem_uc main_arg9 (by decide))).trans (W7_main_arg9 m ρ c),
       (h.1 c _ (mem_uc main_arg10 (by decide))).trans (W7_main_arg10 m ρ c)⟩), h.2⟩) (run_main m ρ)

end Cert.KernelIdeal.Run

end
-- ==== Proof.RI.Frame.lean ====
/-
  The reference program's frame: it runs to its end, leaves its argument arrays unchanged, and every semaphore counter
  ends at zero (the program declares no semaphore).
-/
module

public import proofs.«01_k».proof.Defs
public import proofs.«01_k».proof.Proof.Gen.ReferenceIdeal
public import proofs.«01_k».proof.Proof.Gen.ReferenceIdeal.Run
public import Idealize.ShloMosaic.Lib.Pipeline.Quiescent

@[expose] public section

noncomputable section

namespace Cert.ReferenceIdeal.Value

open Cert.ReferenceIdeal Cert.ReferenceIdeal.Gen Idealize.ShloMosaic Idealize.ShloMosaic.TcCoe Idealize.SL.Sem

variable (m : (ℓ : Loc nD τ sig) → Buf (Elt Ideal) ℓ) (ρ : Dev nD → PrngReg)

/-- The reference terminates, leaves its arguments unchanged and every semaphore counter at zero. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run _ _ _).mono (fun r h => ⟨fun c => (h c).2.2.2.2.2.2.2.2,
    Idealize.ShloMosaic.sem_eq_zero_of_no_sems (by decide) r.2⟩) (run m ρ)

end Cert.ReferenceIdeal.Value

end
-- ==== Proof.KI.Value0.lean ====
/- The decode call at the extended reals: the array it leaves, in closed form. -/
module

public import proofs.«01_k».proof.Proof.KI.Region0
public import Idealize.ShloMosaic.Lib.Pipeline.ValueKit
public import Idealize.ShloMosaic.Lib.Pointwise

@[expose] public section

set_option maxRecDepth 16384

noncomputable section

namespace Cert.KernelIdeal.Run

open Idealize.ShloMosaic Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The block each window of the decode call addresses at point `t`. -/
theorem idx0 : ∀ t : Fin cfg0.N, win0_0.index t = ![0, t.val] ∧ win0_1.index t = ![t.val, 0, 0] ∧ win0_2.index t = ![t.val, 0] :=
  (by decide +kernel : ∀ t : Fin grid0.N, _)

/-- The signed value of the four-bit number in the low half of a word. -/
def nibLo (w : BitVec 32) : BitVec 32 :=
  Scalar.select (IntOp.cmpi CmpIPredicate.sge (IntOp.andi w 15#32) 8#32) (IntOp.subi (IntOp.andi w 15#32) 16#32) (IntOp.andi w 15#32)

/-- The signed value of the four-bit number above the low one. -/
def nibHi (w : BitVec 32) : BitVec 32 :=
  Scalar.select (IntOp.cmpi CmpIPredicate.sge (IntOp.shrsi ArithUnit.vector w 4#32) 8#32)
    (IntOp.subi (IntOp.shrsi ArithUnit.vector w 4#32) 16#32) (IntOp.shrsi ArithUnit.vector w 4#32)

/-- The decoded projection, transposed, at row `o` and column `r`: the even rows from the low halves of the bytes, the odd
    ones from the high halves, each times the scale of its group of 256 rows (128 bytes). -/
def ptAt (C : IVec S256x2816 8) (s : Fin 22 → Fin 256 → EReal) (o : Fin 5632) (r : Fin 256) : EReal :=
  if o.val % 2 = 0 then
    FloatOps.sitofp (F := Ideal) FTy.f32 (nibLo (BitVec.setWidth 32 (C (ix2 r ⟨o.val / 2, by omega⟩)))) * s ⟨o.val / 256, by omega⟩ r
  else
    FloatOps.sitofp (F := Ideal) FTy.f32 (nibHi (BitVec.setWidth 32 (C (ix2 r ⟨o.val / 2, by omega⟩)))) * s ⟨o.val / 256, by omega⟩ r

/-- The decoded projection, transposed, as an array. -/
def PT (C : IVec S256x2816 8) (S : FVec Ideal S22x1x256 .f32) : FVec Ideal S5632x256 .bf16 :=
  fun i => ptAt C (fun g r => S (ix3 g 0 r)) (i 0) (i 1)

/-- The decode call leaves the decoded projection in its output array. -/
theorem final0 (c : Dev nD) : (dat0 V c).arrAt 2 cfg0.N = PT (V c main_arg2) (V c main_v3) := by
  refine (dat0 V c).arrAt_eq_of_covers 2 _ (by decide +kernel) fun t _ y => ?_
  blk_simp
  rw [after0_2]
  unfold out0_2
  frame_out
  have hy : (y 0 : ℕ) < 256 := (y 0).isLt
  have ht : t.val < 22 := t.isLt
  have h0 : ((((cfg0.win 2).blk t).view.emb y) 0 : ℕ) = t.val * 256 + (y 0 : ℕ) := by blk_simp [idx0 t]
  have h1 : ((((cfg0.win 2).blk t).view.emb y) 1 : ℕ) = (y 1 : ℕ) := by blk_simp [idx0 t]
  pointwise [k0_pay1, PT, ptAt, nibLo, nibHi]
  refine if_congr ?_ ?_ ?_
  · rw [h0]; omega
  · blk_point [iblk0, idx0 t]
  · blk_point [iblk0, idx0 t]

end Cert.KernelIdeal.Run

end
-- ==== Proof.KI.Value1.lean ====
/- The project call at the extended reals: the array it leaves, as sums over the tokens and the output features. -/
module

public import proofs.«01_k».proof.Proof.KI.Region1
public import Idealize.ShloMosaic.Lib.Pipeline.ValueKit
public import Idealize.ShloMosaic.Lib.Pointwise

@[expose] public section

set_option maxRecDepth 16384

noncomputable section

namespace Cert.KernelIdeal.Run

open Idealize.ShloMosaic Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The block each window of the project call addresses at point `t`. -/
theorem idx1 : ∀ t : Fin cfg1.N, win1_0.index t = ![t.val % 16, t.val / 16] ∧ win1_1.index t = ![t.val % 16, 0]
    ∧ win1_2.index t = ![0, 0] ∧ win1_3.index t = ![t.val / 16, 0] ∧ t.val / 16 < 4 :=
  (by decide +kernel : ∀ t : Fin grid1.N, _)

/-- The projected gradient at feature `d` and rank `r`: the weight gradient summed over the tokens, times the decoded
    projection, summed over the output features. -/
def projAt (X : FVec Ideal S16384x2048 .bf16) (Y : FVec Ideal S16384x5632 .bf16) (P : FVec Ideal S5632x256 .bf16)
    (d : Fin 2048) (r : Fin 256) : EReal :=
  ∑ o : Fin 5632, (∑ t : Fin 16384, X (ix2 t d) * Y (ix2 t o)) * P (ix2 o r)

/-- The projected gradient, transposed, as an array. -/
def RT (X : FVec Ideal S16384x2048 .bf16) (Y : FVec Ideal S16384x5632 .bf16) (P : FVec Ideal S5632x256 .bf16) : FVec Ideal S2048x256 .f32 :=
  fun i => projAt X Y P (i 0) (i 1)

/-- The accumulator's zero fill. -/
theorem hzero1 (j : S512x5632.Idx) : k1_pay1 (F := Ideal) j = 0 := by pointwise [k1_pay1]

/-- One step of the accumulator at an index. -/
theorem hpay1 (acc : FVec Ideal S512x5632 .f32) (x : FVec Ideal S1024x512 .bf16) (y : FVec Ideal S1024x5632 .bf16) (j : S512x5632.Idx) :
    k1_pay2 acc x y j = acc j + ∑ k : Fin 1024, x (ix2 k (j 0)) * y (ix2 k (j 1)) := by pointwise [k1_pay2]

/-- The last step's product at an index. -/
theorem hproj1 (acc : FVec Ideal S512x5632 .f32) (p : FVec Ideal S5632x256 .bf16) (j : S512x256.Idx) :
    k1_pay3 acc p j = ∑ o : Fin 5632, acc (ix2 (j 0) o) * p (ix2 o (j 1)) := by pointwise [k1_pay3]

/-- The accumulator at the last step over the tokens: the whole sum over the tokens. -/
theorem acc1_last (c : Dev nD) (t : Fin cfg1.N) (h : t.val % 16 = 15) (a : Fin 512) (o : Fin 5632)
    (d : Fin 2048) (hd : d.val = t.val / 16 * 512 + a.val) (X : FVec Ideal S16384x2048 .bf16) (Y : FVec Ideal S16384x5632 .bf16)
    (hX : X = V c main_v0) (hY : Y = V c main_v1) :
    acc1 V c t.val t.isLt (ix2 a o) = ∑ k : Fin 16384, X (ix2 k d) * Y (ix2 k o) := by
  subst hX hY
  rw [Pipeline.eq_sum_fin_of_reset_step_apply_of_flush (fun n h => acc1 V c n h) 16 (fun _ => (0 : EReal))
    (fun p j => ∑ k : Fin 1024, (show FVec Ideal S1024x512 .bf16 from iblk1 V c 0 p) (ix2 k (j 0)) * (show FVec Ideal S1024x5632 .bf16 from iblk1 V c 1 p) (ix2 k (j 1)))
    (fun t h j => by rw [acc1_first V c t h, hpay1, hzero1]) (fun t h j => by rw [acc1_next V c t h, hpay1])
    t h, zero_add]
  refine Fin.sum_mul_add_congr fun s k hl => ?_
  blk_point [iblk1, idx1 t, idx1 ⟨_, Pipeline.run_point_lt_of_flush t h s⟩]

/-- The output window is written back at the last steps over the tokens. -/
theorem flush1 (t : Fin cfg1.N) (hf : (cfg1.win 3).flush t = true) : t.val % 16 = 15 :=
  (by decide +kernel : ∀ t : Fin grid1.N, win1_3.flush t = true → t.val % 16 = 15) t hf

/-- The project call leaves the projected gradient in its output array. -/
theorem final1 (c : Dev nD) : (dat1 V c).arrAt 3 cfg1.N = RT (V c main_v0) (V c main_v1) (V c main_v4) := by
  refine (dat1 V c).arrAt_eq_of_covers 3 _ (by decide +kernel) fun t hf y => ?_
  have h := flush1 t hf
  blk_simp
  rw [after1_3]
  refine (hproj1 _ _ y).trans ?_
  unfold RT projAt
  refine Fin.sum_fin_congr fun o => ?_
  refine Ideal.mul_congr (acc1_last V c t h (y 0) o _ ?_ _ _ rfl rfl) ?_
  · blk_simp [idx1 t] <;> try omega
  · blk_point [iblk1, idx1 t]

end Cert.KernelIdeal.Run

end
-- ==== Proof.KI.Value2.lean ====
/- The Adam call at the extended reals: the arrays it leaves, in closed form. -/
module

public import proofs.«01_k».proof.Proof.KI.Region2
public import Idealize.ShloMosaic.Lib.Pipeline.ValueKit
public import Idealize.ShloMosaic.Lib.Pointwise

@[expose] public section

set_option maxRecDepth 16384

noncomputable section

namespace Cert.KernelIdeal.Run

open Idealize.ShloMosaic Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The new first moment at rank `r` and feature `d`, from the transposed gradient and the old codes and scales. -/
def mAt (R : FVec Ideal S2048x256 .f32) (C : IVec S256x2048 8) (S : FVec Ideal S256x16 .f32) (r : Fin 256) (d : Fin 2048) : EReal :=
  Ideal.ofBits FTy.f32 0x3F666666#32 * (FloatOps.sitofp (F := Ideal) FTy.f32 (C (ix2 r d)) * S (ix2 r ⟨d.val / 128, by omega⟩))
    + Ideal.ofBits FTy.f32 0x3DCCCCCD#32 * R (ix2 d r)

/-- The new second moment at rank `r` and feature `d`, likewise. -/
def vAt (R : FVec Ideal S2048x256 .f32) (C : IVec S256x2048 8) (S : FVec Ideal S256x16 .f32) (r : Fin 256) (d : Fin 2048) : EReal :=
  Ideal.ofBits FTy.f32 0x3F7FBE77#32 * (FloatOps.sitofp (F := Ideal) FTy.f32 (C (ix2 r d)) * S (ix2 r ⟨d.val / 128, by omega⟩))
    + Ideal.ofBits FTy.f32 0x3A83126F#32 * R (ix2 d r) * R (ix2 d r)

/-- The normalised direction: the corrected first moment over the root of the corrected second moment, shifted. -/
def nOf (m v : EReal) : EReal :=
  Ideal.div (Ideal.div m (Ideal.ofBits FTy.f32 0x3F26BD02#32))
    (Ideal.sqrt (Ideal.div v (Ideal.ofBits FTy.f32 0x3C231ACC#32)) + Ideal.ofBits FTy.f32 0x322BCC77#32)

/-- The scale of a group of values: its greatest magnitude over 127, and one for a group of zeros. -/
def scaleOf {n : ℕ} (f : Fin n → EReal) : EReal :=
  if Finset.fold max (Ideal.ofBits FTy.f32 0xFF800000#32) (fun l => FloatOps.absf (F := Ideal) (φ := .f32) (f l)) Finset.univ = 0 then 1
  else Ideal.div (Finset.fold max (Ideal.ofBits FTy.f32 0xFF800000#32) (fun l => FloatOps.absf (F := Ideal) (φ := .f32) (f l)) Finset.univ)
    (Ideal.ofBits FTy.f32 0x42FE0000#32)

/-- The scale of the group of 128 features that `g` numbers. -/
def gScale (f : Fin 2048 → EReal) (g : Fin 16) : EReal := scaleOf fun l : Fin 128 => f ⟨g.val * 128 + l.val, by omega⟩

/-- The code of a value: over its scale, rounded to the nearest even integer, held in [-127, 127]. -/
def codeOf (x s : EReal) : BitVec 8 :=
  FloatOps.fptosi (F := Ideal) (φ := .f32) 8 (min (Ideal.ofBits FTy.f32 0x42FE0000#32) (max (Ideal.ofBits FTy.f32 0xC2FE0000#32)
    (Ideal.liftRound Ideal.roundHalfEven (Ideal.div x s))))

/-- The array of codes of a two-axis value, in groups of 128 along its second axis. -/
def codesOf (f : Fin 256 → Fin 2048 → EReal) : IVec S256x2048 8 :=
  fun y => codeOf (f (y 0) (y 1)) (gScale (f (y 0)) ⟨(y 1 : ℕ) / 128, by have : (y 1 : ℕ) < 2048 := (y 1).isLt; omega⟩)

/-- The array of scales of a two-axis value, in groups of 128 along its second axis. -/
def scalesOf (f : Fin 256 → Fin 2048 → EReal) : FVec Ideal S256x16 .f32 := fun y => gScale (f (y 0)) (y 1)

/-- The array of normalised directions. -/
def dirOf (m v : Fin 256 → Fin 2048 → EReal) : FVec Ideal S256x2048 .f32 := fun y => nOf (m (y 0) (y 1)) (v (y 0) (y 1))

/-- The sixteen stores of the direction, at an index. -/
theorem out5_at (x0 : Vec Ideal S2048x256 .f32) (x1 : Vec Ideal S256x2048 .i8) (x2 : Vec Ideal S256x16 .f32) (x3 : Vec Ideal S256x2048 .i8) (x4 : Vec Ideal S256x16 .f32) (y : S256x2048.Idx) :
    out2_5 x0 x1 x2 x3 x4 y = dirOf (mAt x0 x1 x2) (vAt x0 x3 x4) y := by
  unfold out2_5
  canon_tiles x h
  all_goals (open_payloads; pointwise [dirOf, nOf, mAt, vAt]; blk_point [])

/-- The sixteen stores of the first moment's scales, at an index. -/
theorem out7_at (x0 : Vec Ideal S2048x256 .f32) (x1 : Vec Ideal S256x2048 .i8) (x2 : Vec Ideal S256x16 .f32) (x3 : Vec Ideal S256x2048 .i8) (x4 : Vec Ideal S256x16 .f32) (y : S256x16.Idx) :
    out2_7 x0 x1 x2 x3 x4 y = scalesOf (mAt x0 x1 x2) y := by
  unfold out2_7
  canon_tiles x h
  all_goals (open_payloads; pointwise [scalesOf, gScale, scaleOf, mAt]; blk_point [])

/-- The sixteen stores of the second moment's scales, at an index. -/
theorem out9_at (x0 : Vec Ideal S2048x256 .f32) (x1 : Vec Ideal S256x2048 .i8) (x2 : Vec Ideal S256x16 .f32) (x3 : Vec Ideal S256x2048 .i8) (x4 : Vec Ideal S256x16 .f32) (y : S256x16.Idx) :
    out2_9 x0 x1 x2 x3 x4 y = scalesOf (vAt x0 x3 x4) y := by
  unfold out2_9
  canon_tiles x h
  all_goals (open_payloads; pointwise [scalesOf, gScale, scaleOf, vAt]; blk_point [])

/-- The sixteen stores of the first moment's codes, at an index. -/
theorem out6_at (x0 : Vec Ideal S2048x256 .f32) (x1 : Vec Ideal S256x2048 .i8) (x2 : Vec Ideal S256x16 .f32) (x3 : Vec Ideal S256x2048 .i8) (x4 : Vec Ideal S256x16 .f32) (y : S256x2048.Idx) :
    out2_6 x0 x1 x2 x3 x4 y = codesOf (mAt x0 x1 x2) y := by
  unfold out2_6
  canon_tiles x h
  all_goals (open_payloads; pointwise [codesOf, codeOf, gScale, scaleOf, mAt]; blk_point [])

/-- The sixteen stores of the second moment's codes, at an index. -/
theorem out8_at (x0 : Vec Ideal S2048x256 .f32) (x1 : Vec Ideal S256x2048 .i8) (x2 : Vec Ideal S256x16 .f32) (x3 : Vec Ideal S256x2048 .i8) (x4 : Vec Ideal S256x16 .f32) (y : S256x2048.Idx) :
    out2_8 x0 x1 x2 x3 x4 y = codesOf (vAt x0 x3 x4) y := by
  unfold out2_8
  canon_tiles x h
  all_goals (open_payloads; pointwise [codesOf, codeOf, gScale, scaleOf, vAt]; blk_point [])

/-- Every window of the Adam call is its whole array. -/
theorem idx2 : ∀ t : Fin cfg2.N, win2_0.index t = ![0, 0] ∧ win2_1.index t = ![0, 0] ∧ win2_2.index t = ![0, 0] ∧ win2_3.index t = ![0, 0]
    ∧ win2_4.index t = ![0, 0] ∧ win2_5.index t = ![0, 0] ∧ win2_6.index t = ![0, 0] ∧ win2_7.index t = ![0, 0] ∧ win2_8.index t = ![0, 0]
    ∧ win2_9.index t = ![0, 0] :=
  (by decide +kernel : ∀ t : Fin grid2.N, _)

/-- The block of the Adam call's input window 0 is its whole array. -/
theorem iblk2_0 (c : Dev nD) (t : Fin cfg2.N) : iblk2 V c 0 t = V c main_v5 := by blk_ext! [iblk2, idx2 t]
/-- The block of the Adam call's input window 1 is its whole array. -/
theorem iblk2_1 (c : Dev nD) (t : Fin cfg2.N) : iblk2 V c 1 t = V c main_arg4 := by blk_ext! [iblk2, idx2 t]
/-- The block of the Adam call's input window 2 is its whole array. -/
theorem iblk2_2 (c : Dev nD) (t : Fin cfg2.N) : iblk2 V c 2 t = V c main_arg5 := by blk_ext! [iblk2, idx2 t]
/-- The block of the Adam call's input window 3 is its whole array. -/
theorem iblk2_3 (c : Dev nD) (t : Fin cfg2.N) : iblk2 V c 3 t = V c main_arg6 := by blk_ext! [iblk2, idx2 t]
/-- The block of the Adam call's input window 4 is its whole array. -/
theorem iblk2_4 (c : Dev nD) (t : Fin cfg2.N) : iblk2 V c 4 t = V c main_arg7 := by blk_ext! [iblk2, idx2 t]

/-- The Adam call leaves the direction in output array 0. -/
theorem final2_5 (c : Dev nD) : (dat2 V c).arrAt 5 cfg2.N = dirOf (mAt (V c main_v5) (V c main_arg4) (V c main_arg5)) (vAt (V c main_v5) (V c main_arg6) (V c main_arg7)) := by
  refine (dat2 V c).arrAt_eq_of_covers 5 _ (by decide +kernel) fun t hf y => ?_
  have hy : (((cfg2.win 5).blk t).view.emb y) = y := by blk_ext [idx2 t]
  blk_simp
  rw [after2_5, iblk2_0, iblk2_1, iblk2_2, iblk2_3, iblk2_4]
  exact (out5_at _ _ _ _ _ y).trans (congrArg _ hy.symm)

/-- The Adam call leaves the first moment's codes in output array 1. -/
theorem final2_6 (c : Dev nD) : (dat2 V c).arrAt 6 cfg2.N = codesOf (mAt (V c main_v5) (V c main_arg4) (V c main_arg5)) := by
  refine (dat2 V c).arrAt_eq_of_covers 6 _ (by decide +kernel) fun t hf y => ?_
  have hy : (((cfg2.win 6).blk t).view.emb y) = y := by blk_ext [idx2 t]
  blk_simp
  rw [after2_6, iblk2_0, iblk2_1, iblk2_2, iblk2_3, iblk2_4]
  exact (out6_at _ _ _ _ _ y).trans (congrArg _ hy.symm)

/-- The Adam call leaves the first moment's scales in output array 2. -/
theorem final2_7 (c : Dev nD) : (dat2 V c).arrAt 7 cfg2.N = scalesOf (mAt (V c main_v5) (V c main_arg4) (V c main_arg5)) := by
  refine (dat2 V c).arrAt_eq_of_covers 7 _ (by decide +kernel) fun t hf y => ?_
  have hy : (((cfg2.win 7).blk t).view.emb y) = y := by blk_ext [idx2 t]
  blk_simp
  rw [after2_7, iblk2_0, iblk2_1, iblk2_2, iblk2_3, iblk2_4]
  exact (out7_at _ _ _ _ _ y).trans (congrArg _ hy.symm)

/-- The Adam call leaves the second moment's codes in output array 3. -/
theorem final2_8 (c : Dev nD) : (dat2 V c).arrAt 8 cfg2.N = codesOf (vAt (V c main_v5) (V c main_arg6) (V c main_arg7)) := by
  refine (dat2 V c).arrAt_eq_of_covers 8 _ (by decide +kernel) fun t hf y => ?_
  have hy : (((cfg2.win 8).blk t).view.emb y) = y := by blk_ext [idx2 t]
  blk_simp
  rw [after2_8, iblk2_0, iblk2_1, iblk2_2, iblk2_3, iblk2_4]
  exact (out8_at _ _ _ _ _ y).trans (congrArg _ hy.symm)

/-- The Adam call leaves the second moment's scales in output array 4. -/
theorem final2_9 (c : Dev nD) : (dat2 V c).arrAt 9 cfg2.N = scalesOf (vAt (V c main_v5) (V c main_arg6) (V c main_arg7)) := by
  refine (dat2 V c).arrAt_eq_of_covers 9 _ (by decide +kernel) fun t hf y => ?_
  have hy : (((cfg2.win 9).blk t).view.emb y) = y := by blk_ext [idx2 t]
  blk_simp
  rw [after2_9, iblk2_0, iblk2_1, iblk2_2, iblk2_3, iblk2_4]
  exact (out9_at _ _ _ _ _ y).trans (congrArg _ hy.symm)

end Cert.KernelIdeal.Run

end
-- ==== Proof.KI.Value3.lean ====
/- The update call at the extended reals: the arrays it leaves, in closed form. -/
module

public import proofs.«01_k».proof.Proof.KI.Region3
public import proofs.«01_k».proof.Proof.KI.Value2
public import Idealize.ShloMosaic.Lib.Pipeline.ValueKit
public import Idealize.ShloMosaic.Lib.Pointwise

@[expose] public section

set_option maxRecDepth 16384

noncomputable section

namespace Cert.KernelIdeal.Run

open Idealize.ShloMosaic Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The block each window of the update call addresses at point `t`. -/
theorem idx3 : ∀ t : Fin cfg3.N, win3_0.index t = ![t.val, 0] ∧ win3_1.index t = ![0, 0] ∧ win3_2.index t = ![t.val, 0]
    ∧ win3_3.index t = ![t.val, 0] ∧ win3_4.index t = ![t.val, 0] ∧ win3_5.index t = ![t.val, 0] ∧ win3_6.index t = ![t.val, 0]
    ∧ win3_7.index t = ![t.val, 0] :=
  (by decide +kernel : ∀ t : Fin grid3.N, _)

/-- The step at output feature `o` and input feature `d`: the step size times the projection back of the direction. -/
def deltaAt (P : FVec Ideal S5632x256 .bf16) (N : FVec Ideal S256x2048 .f32) (o : Fin 5632) (d : Fin 2048) : EReal :=
  Ideal.ofBits FTy.f32 0x3A83126F#32 * ∑ r : Fin 256, P (ix2 o r) * N (ix2 r d)

/-- The new weight: the old one read from its code and scale, less the step. -/
def wAt (P : FVec Ideal S5632x256 .bf16) (N : FVec Ideal S256x2048 .f32) (C : IVec S5632x2048 8) (S : FVec Ideal S5632x1 .f32)
    (o : Fin 5632) (d : Fin 2048) : EReal :=
  FloatOps.sitofp (F := Ideal) FTy.f32 (C (ix2 o d)) * S (ix2 o 0) - deltaAt P N o d

/-- The code of a weight: over its scale, shifted by the random byte over 256, rounded down, held in [-127, 127]. -/
def wCodeOf (x s : EReal) (b : BitVec 8) : BitVec 8 :=
  FloatOps.fptosi (F := Ideal) (φ := .f32) 8 (min (Ideal.ofBits FTy.f32 0x42FE0000#32) (max (Ideal.ofBits FTy.f32 0xC2FE0000#32)
    (Ideal.liftRound Int.floor (Ideal.div x s + FloatOps.sitofp (F := Ideal) FTy.f32 (BitVec.setWidth 32 b) * Ideal.ofBits FTy.f32 0x3B800000#32))))

/-- The step as an array. -/
def DELTA (P : FVec Ideal S5632x256 .bf16) (N : FVec Ideal S256x2048 .f32) : FVec Ideal S5632x2048 .f32 := fun y => deltaAt P N (y 0) (y 1)

/-- The new weights' scales as a column. -/
def WSCALE (P : FVec Ideal S5632x256 .bf16) (N : FVec Ideal S256x2048 .f32) (C : IVec S5632x2048 8) (S : FVec Ideal S5632x1 .f32) :
    FVec Ideal S5632x1 .f32 := fun y => scaleOf (wAt P N C S (y 0))

/-- The new weights' codes as an array. -/
def WCODE (P : FVec Ideal S5632x256 .bf16) (N : FVec Ideal S256x2048 .f32) (C : IVec S5632x2048 8) (S : FVec Ideal S5632x1 .f32)
    (B : IVec S5632x2048 8) : IVec S5632x2048 8 := fun y => wCodeOf (wAt P N C S (y 0) (y 1)) (scaleOf (wAt P N C S (y 0))) (B y)

/-- The update call leaves the step in its third output array. -/
theorem final3_7 (c : Dev nD) : (dat3 V c).arrAt 7 cfg3.N = DELTA (V c main_v4) (V c main_v6_0) := by
  refine (dat3 V c).arrAt_eq_of_covers 7 _ (by decide +kernel) fun t _ y => ?_
  blk_simp
  rw [after3_7]
  unfold out3_7
  frame_out
  pointwise [k3_pay2, DELTA, deltaAt]
  blk_point [iblk3, idx3 t]

/-- The update call leaves the new weights' scales in its second output array. -/
theorem final3_6 (c : Dev nD) : (dat3 V c).arrAt 6 cfg3.N = WSCALE (V c main_v4) (V c main_v6_0) (V c main_arg8) (V c main_v7) := by
  refine (dat3 V c).arrAt_eq_of_covers 6 _ (by decide +kernel) fun t _ y => ?_
  blk_simp
  rw [after3_6]
  unfold out3_6
  frame_out
  pointwise [k3_pay2, k3_pay3, k3_pay4, WSCALE, scaleOf, wAt, deltaAt]
  blk_point [iblk3, idx3 t]

/-- The update call leaves the new weights' codes in its first output array. -/
theorem final3_5 (c : Dev nD) : (dat3 V c).arrAt 5 cfg3.N = WCODE (V c main_v4) (V c main_v6_0) (V c main_arg8) (V c main_v7) (V c main_arg10) := by
  refine (dat3 V c).arrAt_eq_of_covers 5 _ (by decide +kernel) fun t _ y => ?_
  blk_simp
  rw [after3_5]
  unfold out3_5
  frame_out
  pointwise [k3_pay1, k3_pay2, k3_pay3, k3_pay4, k3_pay5, WCODE, wCodeOf, scaleOf, wAt, deltaAt]
  blk_point [iblk3, idx3 t]

end Cert.KernelIdeal.Run

end
-- ==== Proof.KI.Values.lean ====
/- The kernel's results at the extended reals, as closed forms of its arguments: the four calls put together. -/
module

public import proofs.«01_k».proof.Proof.KI.Fold0
public import proofs.«01_k».proof.Proof.KI.Value0
public import proofs.«01_k».proof.Proof.KI.Value1
public import proofs.«01_k».proof.Proof.KI.Value2
public import proofs.«01_k».proof.Proof.KI.Value3
public import Idealize.ShloMosaic.Lib.Claim

@[expose] public section

set_option maxRecDepth 16384

noncomputable section

namespace Cert.KernelIdeal.Run

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg)

/-! ## The closed forms over the arguments -/

/-- The decoded projection, transposed, from the argument's codes and scales. -/
def PTof (C : IVec S256x2816 8) (S : FVec Ideal S256x22 .f32) : FVec Ideal S5632x256 .bf16 :=
  fun i => ptAt C (fun g r => S (ix2 r g)) (i 0) (i 1)

/-- The weight gradient at output feature `o` and input feature `d`: the sum over the batch and the sequence. -/
def gradAt (x : FVec Ideal S16x1024x2048 .bf16) (dy : FVec Ideal S16x1024x5632 .bf16) (o : Fin 5632) (d : Fin 2048) : EReal :=
  ∑ b : Fin 16, ∑ s : Fin 1024, x (ix3 b s d) * dy (ix3 b s o)

/-- The projected gradient, transposed: the weight gradient times the decoded projection, summed over the output features. -/
def RTof (x : FVec Ideal S16x1024x2048 .bf16) (dy : FVec Ideal S16x1024x5632 .bf16) (P : FVec Ideal S5632x256 .bf16) : FVec Ideal S2048x256 .f32 :=
  fun i => ∑ o : Fin 5632, gradAt x dy o (i 0) * P (ix2 o (i 1))

/-- A vector as a column. -/
def colOf (S : FVec Ideal S5632 .f32) : FVec Ideal S5632x1 .f32 := fun y => S (ix1 (y 0))

/-! ## The host's reshapes -/

/-- The project call reads the first argument with the batch and the sequence joined. -/
theorem V1_v0 (c : Dev nD) : V1 m ρ c main_v0 = shapeCast S16384x2048 (show FVec Ideal S16x1024x2048 .bf16 from m ((c : Thread nD τ).loc main_arg0)) shapeCasts_S16x1024x2048_S16384x2048 := by
  show StableHlo.after hostOps0 (W0 m ρ c) _ = _
  after_results
  rfl
/-- The project call reads the second argument with the batch and the sequence joined. -/
theorem V1_v1 (c : Dev nD) : V1 m ρ c main_v1 = shapeCast S16384x5632 (show FVec Ideal S16x1024x5632 .bf16 from m ((c : Thread nD τ).loc main_arg1)) shapeCasts_S16x1024x5632_S16384x5632 := by
  show StableHlo.after hostOps0 (W0 m ρ c) _ = _
  after_results
  rfl
/-- The decode call reads the scales transposed, with an axis of one put in. -/
theorem V1_v3 (c : Dev nD) : V1 m ρ c main_v3 = shapeCast S22x1x256 (transpose S22x256 [1, 0] (show FVec Ideal S256x22 .f32 from m ((c : Thread nD τ).loc main_arg3)) transposes_S256x22_S22x256_1_0) shapeCasts_S22x256_S22x1x256 := by
  show StableHlo.after hostOps0 (W0 m ρ c) _ = _
  after_results
  rfl
/-- The update call reads the old weights' scales as a column. -/
theorem V5_v7 (c : Dev nD) : V5 m ρ c main_v7 = shapeCast S5632x1 (show FVec Ideal S5632 .f32 from V4 m ρ c main_arg9) shapeCasts_S5632_S5632x1 := by
  show StableHlo.after hostOps3 (W4 m ρ c) _ = _
  after_results
  rfl
/-- The second result is the column of new scales, its axis of one dropped. -/
theorem W7_v9 (c : Dev nD) : W7 m ρ c main_v9 = shapeCast S5632 (show FVec Ideal S5632x1 .f32 from V6 m ρ c main_v8_1) shapeCasts_S5632x1_S5632 := by
  show StableHlo.after hostOps4 (W6 m ρ c) _ = _
  after_results
  rfl

/-- The decode call's closed form at the host's transposed and reshaped scales. -/
theorem PT_host (C : IVec S256x2816 8) (S : FVec Ideal S256x22 .f32) :
    PT C (shapeCast S22x1x256 (transpose S22x256 [1, 0] S transposes_S256x22_S22x256_1_0) shapeCasts_S22x256_S22x1x256) = PTof C S := by
  unfold PT PTof
  funext i
  refine congrArg (fun s => ptAt C s (i 0) (i 1)) ?_
  funext g r
  pointwise

/-- The project call's closed form at the host's reshaped arguments: the tokens are the batch and the sequence in order. -/
theorem RT_host (x : FVec Ideal S16x1024x2048 .bf16) (dy : FVec Ideal S16x1024x5632 .bf16) (P : FVec Ideal S5632x256 .bf16) :
    RT (shapeCast S16384x2048 x shapeCasts_S16x1024x2048_S16384x2048) (shapeCast S16384x5632 dy shapeCasts_S16x1024x5632_S16384x5632) P = RTof x dy P := by
  unfold RT RTof projAt gradAt
  funext i
  refine Fin.sum_fin_congr fun o => ?_
  refine Ideal.mul_congr ?_ rfl
  rw [Fin.sum_univ_tiles 16 1024 rfl]
  refine Fin.sum_fin_congr fun b => Fin.sum_fin_congr fun s => ?_
  pointwise

/-- The reshape to a column, at an index. -/
theorem col_host (S : FVec Ideal S5632 .f32) : shapeCast S5632x1 S shapeCasts_S5632_S5632x1 = colOf S := by
  funext y
  pointwise [colOf]

/-! ## The arrays between the calls -/

/-- The decoded projection of the arguments. -/
abbrev ptv (c : Dev nD) : FVec Ideal S5632x256 .bf16 := PTof (m ((c : Thread nD τ).loc main_arg2)) (m ((c : Thread nD τ).loc main_arg3))
/-- The projected gradient of the arguments. -/
abbrev rtv (c : Dev nD) : FVec Ideal S2048x256 .f32 := RTof (m ((c : Thread nD τ).loc main_arg0)) (m ((c : Thread nD τ).loc main_arg1)) (ptv m c)
/-- The new first moment of the arguments. -/
abbrev mv (c : Dev nD) : Fin 256 → Fin 2048 → EReal := mAt (rtv m c) (m ((c : Thread nD τ).loc main_arg4)) (m ((c : Thread nD τ).loc main_arg5))
/-- The new second moment of the arguments. -/
abbrev vv (c : Dev nD) : Fin 256 → Fin 2048 → EReal := vAt (rtv m c) (m ((c : Thread nD τ).loc main_arg6)) (m ((c : Thread nD τ).loc main_arg7))

/-- The decode call leaves the decoded projection of the arguments. -/
theorem W2_v4 (c : Dev nD) : V2 m ρ c main_v4 = ptv m c := by
  refine (W2_arr m ρ c 2).trans ?_
  rw [final0, V1_v3, PT_host]
  exact congrArg (fun C => PTof C _) (W1_args m ρ c main_arg2 (by decide))

/-- The project call leaves the projected gradient of the arguments. -/
theorem W3_v5 (c : Dev nD) : V3 m ρ c main_v5 = rtv m c := by
  refine (W3_arr m ρ c 3).trans ?_
  rw [final1, W2_v4, show V2 m ρ c main_v0 = _ from (W2_of m ρ c main_v0 (by decide)).trans (V1_v0 m ρ c),
    show V2 m ρ c main_v1 = _ from (W2_of m ρ c main_v1 (by decide)).trans (V1_v1 m ρ c), RT_host]

/-- The Adam call leaves the direction. -/
theorem W4_v6_0 (c : Dev nD) : V4 m ρ c main_v6_0 = dirOf (mv m c) (vv m c) := by
  refine (W4_arr m ρ c 5).trans ?_
  rw [final2_5, W3_v5, show V3 m ρ c main_arg4 = _ from W3_args m ρ c main_arg4 (by decide), show V3 m ρ c main_arg5 = _ from W3_args m ρ c main_arg5 (by decide),
    show V3 m ρ c main_arg6 = _ from W3_args m ρ c main_arg6 (by decide), show V3 m ρ c main_arg7 = _ from W3_args m ρ c main_arg7 (by decide)]
/-- The Adam call leaves the first moment's codes. -/
theorem W4_v6_1 (c : Dev nD) : V4 m ρ c main_v6_1 = codesOf (mv m c) := by
  refine (W4_arr m ρ c 6).trans ?_
  rw [final2_6, W3_v5, show V3 m ρ c main_arg4 = _ from W3_args m ρ c main_arg4 (by decide), show V3 m ρ c main_arg5 = _ from W3_args m ρ c main_arg5 (by decide)]
/-- The Adam call leaves the first moment's scales. -/
theorem W4_v6_2 (c : Dev nD) : V4 m ρ c main_v6_2 = scalesOf (mv m c) := by
  refine (W4_arr m ρ c 7).trans ?_
  rw [final2_7, W3_v5, show V3 m ρ c main_arg4 = _ from W3_args m ρ c main_arg4 (by decide), show V3 m ρ c main_arg5 = _ from W3_args m ρ c main_arg5 (by decide)]
/-- The Adam call leaves the second moment's codes. -/
theorem W4_v6_3 (c : Dev nD) : V4 m ρ c main_v6_3 = codesOf (vv m c) := by
  refine (W4_arr m ρ c 8).trans ?_
  rw [final2_8, W3_v5, show V3 m ρ c main_arg6 = _ from W3_args m ρ c main_arg6 (by decide), show V3 m ρ c main_arg7 = _ from W3_args m ρ c main_arg7 (by decide)]
/-- The Adam call leaves the second moment's scales. -/
theorem W4_v6_4 (c : Dev nD) : V4 m ρ c main_v6_4 = scalesOf (vv m c) := by
  refine (W4_arr m ρ c 9).trans ?_
  rw [final2_9, W3_v5, show V3 m ρ c main_arg6 = _ from W3_args m ρ c main_arg6 (by decide), show V3 m ρ c main_arg7 = _ from W3_args m ρ c main_arg7 (by decide)]

/-! ## What the update call reads -/

/-- The update call reads the decoded projection. -/
theorem V5_v4 (c : Dev nD) : V5 m ρ c main_v4 = ptv m c :=
  (W5_of m ρ c main_v4 (by decide)).trans ((W4_of m ρ c main_v4 (by decide)).trans ((W3_of m ρ c main_v4 (by decide)).trans (W2_v4 m ρ c)))
/-- The update call reads the direction. -/
theorem V5_v6_0 (c : Dev nD) : V5 m ρ c main_v6_0 = dirOf (mv m c) (vv m c) :=
  (W5_of m ρ c main_v6_0 (by decide)).trans (W4_v6_0 m ρ c)
/-- The update call reads the argument's scales as a column. -/
theorem V5_v7' (c : Dev nD) : V5 m ρ c main_v7 = colOf (m ((c : Thread nD τ).loc main_arg9)) := by
  rw [V5_v7, col_host, show V4 m ρ c main_arg9 = _ from W4_args m ρ c main_arg9 (by decide)]
/-- The update call reads the old weights' codes as launched. -/
theorem V5_arg8 (c : Dev nD) : V5 m ρ c main_arg8 = m ((c : Thread nD τ).loc main_arg8) := W5_args m ρ c main_arg8 (by decide)
/-- The update call reads the random bytes as launched. -/
theorem V5_arg10 (c : Dev nD) : V5 m ρ c main_arg10 = m ((c : Thread nD τ).loc main_arg10) := W5_args m ρ c main_arg10 (by decide)

/-! ## The results -/

/-- Result 1: the new weights' codes. -/
theorem res1 (c : Dev nD) : W7 m ρ c main_v8_0 = WCODE (ptv m c) (dirOf (mv m c) (vv m c)) (m ((c : Thread nD τ).loc main_arg8)) (colOf (m ((c : Thread nD τ).loc main_arg9))) (m ((c : Thread nD τ).loc main_arg10)) := by
  refine (W7_of m ρ c main_v8_0 (by decide)).trans ((W6_arr m ρ c 5).trans ?_)
  rw [final3_5, V5_v4, V5_v6_0, V5_v7', V5_arg8, V5_arg10]
/-- Result 2: the new weights' scales. -/
theorem res2 (c : Dev nD) : W7 m ρ c main_v9 = fun i : S5632.Idx => WSCALE (ptv m c) (dirOf (mv m c) (vv m c)) (m ((c : Thread nD τ).loc main_arg8)) (colOf (m ((c : Thread nD τ).loc main_arg9))) (ix2 (i 0) 0) := by
  rw [W7_v9, show V6 m ρ c main_v8_1 = _ from W6_arr m ρ c 6, final3_6, V5_v4, V5_v6_0, V5_v7', V5_arg8]
  funext i
  pointwise
/-- Result 3: the step. -/
theorem res3 (c : Dev nD) : W7 m ρ c main_v8_2 = DELTA (ptv m c) (dirOf (mv m c) (vv m c)) := by
  refine (W7_of m ρ c main_v8_2 (by decide)).trans ((W6_arr m ρ c 7).trans ?_)
  rw [final3_7, V5_v4, V5_v6_0]
/-- Result 4: the normalised direction. -/
theorem res4 (c : Dev nD) : W7 m ρ c main_v6_0 = dirOf (mv m c) (vv m c) :=
  (W7_of m ρ c main_v6_0 (by decide)).trans ((W6_of m ρ c main_v6_0 (by decide)).trans ((W5_of m ρ c main_v6_0 (by decide)).trans (W4_v6_0 m ρ c)))
/-- Result 5: the first moment's codes. -/
theorem res5 (c : Dev nD) : W7 m ρ c main_v6_1 = codesOf (mv m c) :=
  (W7_of m ρ c main_v6_1 (by decide)).trans ((W6_of m ρ c main_v6_1 (by decide)).trans ((W5_of m ρ c main_v6_1 (by decide)).trans (W4_v6_1 m ρ c)))
/-- Result 6: the first moment's scales. -/
theorem res6 (c : Dev nD) : W7 m ρ c main_v6_2 = scalesOf (mv m c) :=
  (W7_of m ρ c main_v6_2 (by decide)).trans ((W6_of m ρ c main_v6_2 (by decide)).trans ((W5_of m ρ c main_v6_2 (by decide)).trans (W4_v6_2 m ρ c)))
/-- Result 7: the second moment's codes. -/
theorem res7 (c : Dev nD) : W7 m ρ c main_v6_3 = codesOf (vv m c) :=
  (W7_of m ρ c main_v6_3 (by decide)).trans ((W6_of m ρ c main_v6_3 (by decide)).trans ((W5_of m ρ c main_v6_3 (by decide)).trans (W4_v6_3 m ρ c)))
/-- Result 8: the second moment's scales. -/
theorem res8 (c : Dev nD) : W7 m ρ c main_v6_4 = scalesOf (vv m c) :=
  (W7_of m ρ c main_v6_4 (by decide)).trans ((W6_of m ρ c main_v6_4 (by decide)).trans ((W5_of m ρ c main_v6_4 (by decide)).trans (W4_v6_4 m ρ c)))

end Cert.KernelIdeal.Run

end
-- ==== Proof.Scalars.lean ====
/- Scalar facts the two programs differ by: integers read through a wider word, a held value converted through a wider word. -/
module

public import Idealize.ShloMosaic.Lib.Pointwise

@[expose] public section

set_option maxRecDepth 16384

noncomputable section

namespace Cert.Scalars

open Idealize.ShloMosaic

/-- A byte read as a signed number is the same number after it is widened with its sign. -/
theorem sitofp_extsi (b : BitVec 8) :
    FloatOps.sitofp (F := Ideal) FTy.f32 (BitVec.signExtend 32 b) = FloatOps.sitofp (F := Ideal) FTy.f32 b := by
  show (((BitVec.signExtend 32 b).toInt : ℝ) : EReal) = ((b.toInt : ℝ) : EReal)
  rw [BitVec.toInt_signExtend_of_le (by decide)]

/-- A shift by four is the same on the host and on the vector unit. -/
theorem shrsi_host (w : BitVec 32) : IntOp.shrsi ArithUnit.host w 4#32 = IntOp.shrsi ArithUnit.vector w 4#32 := rfl

/-- The word that holds the upper bound is 127. -/
theorem ofBits_127 : Ideal.ofBits FTy.f32 0x42FE0000#32 = ((127 : ℝ) : EReal) := by
  simp [Ideal.ofBits, Ideal.ieee, -EReal.coe_mul]; norm_num

/-- The word that holds the lower bound is -127. -/
theorem ofBits_neg127 : Ideal.ofBits FTy.f32 0xC2FE0000#32 = ((-127 : ℝ) : EReal) := by
  simp [Ideal.ofBits, Ideal.ieee, -EReal.coe_mul]; norm_num

/-- A value held between -127 and 127 is a real number between them. -/
theorem clip_real (x : EReal) : ∃ r : ℝ, min (Ideal.ofBits FTy.f32 0x42FE0000#32) (max (Ideal.ofBits FTy.f32 0xC2FE0000#32) x) = (r : EReal)
    ∧ -127 ≤ r ∧ r ≤ 127 := by
  rw [ofBits_127, ofBits_neg127]
  induction x with
  | bot => exact ⟨-127, by rw [max_eq_left bot_le, min_eq_right (by exact_mod_cast (by norm_num : (-127 : ℝ) ≤ 127))], by norm_num, by norm_num⟩
  | top => exact ⟨127, by rw [max_eq_right le_top, min_eq_left le_top], by norm_num, by norm_num⟩
  | coe r => exact ⟨min 127 (max (-127) r), by rw [(EReal.coe_strictMono.monotone).map_min, (EReal.coe_strictMono.monotone).map_max], le_min (by norm_num) (le_max_left _ _), min_le_left _ _⟩

/-- Cutting a 32-bit integer to eight bits is reading the integer at eight bits. -/
theorem setWidth_ofInt (k : ℤ) : BitVec.setWidth 8 (BitVec.ofInt 32 k) = BitVec.ofInt 8 k := by
  apply BitVec.eq_of_toNat_eq
  simp only [BitVec.toNat_setWidth, BitVec.toNat_ofInt]
  omega

/-- A value held between -127 and 127 converts to the same byte through a 32-bit integer as at once. -/
theorem fptosi_clip (x : EReal) :
    BitVec.setWidth 8 (FloatOps.fptosi (F := Ideal) (φ := .f32) 32 (min (Ideal.ofBits FTy.f32 0x42FE0000#32) (max (Ideal.ofBits FTy.f32 0xC2FE0000#32) x)))
      = FloatOps.fptosi (F := Ideal) (φ := .f32) 8 (min (Ideal.ofBits FTy.f32 0x42FE0000#32) (max (Ideal.ofBits FTy.f32 0xC2FE0000#32) x)) := by
  obtain ⟨r, hr, h0, h1⟩ := clip_real x
  rw [hr]
  show BitVec.setWidth 8 (Ideal.fptosi 32 (r : EReal)) = Ideal.fptosi 8 (r : EReal)
  unfold Ideal.fptosi
  rw [setWidth_ofInt, Ideal.toIntClamped_coe, Ideal.toIntClamped_coe]
  have hk : -127 ≤ (if 0 ≤ r then ⌊r⌋ else ⌈r⌉) ∧ (if 0 ≤ r then ⌊r⌋ else ⌈r⌉) ≤ 127 := by
    split
    · exact ⟨Int.le_floor.mpr (by push_cast; linarith), Int.floor_le_iff.mpr (by push_cast; linarith)⟩
    · exact ⟨by rw [Int.le_ceil_iff]; push_cast; linarith, Int.ceil_le.mpr (by push_cast; linarith)⟩
  generalize (if 0 ≤ r then ⌊r⌋ else ⌈r⌉) = k at hk
  congr 1
  norm_num
  omega

end Cert.Scalars

end
-- ==== Proof.RI.Value.lean ====
/- The reference at the extended reals: its arrays in the closed forms the kernel's calls are read in. -/
module

public import proofs.«01_k».proof.Proof.Gen.ReferenceIdeal.Run
public import proofs.«01_k».proof.Proof.KI.Value0
public import proofs.«01_k».proof.Proof.KI.Value1
public import proofs.«01_k».proof.Proof.KI.Value2
public import proofs.«01_k».proof.Proof.KI.Value3
public import proofs.«01_k».proof.Proof.KI.Values
public import proofs.«01_k».proof.Proof.Scalars
public import Idealize.ShloMosaic.Lib.Pointwise
public import Idealize.ShloMosaic.Lib.Tactic.CleanTypes
public import Idealize.ShloMosaic.Lib.Tactic.IndexArith

@[expose] public section

set_option maxRecDepth 16384

noncomputable section

namespace Cert.ReferenceIdeal.Value

open Idealize.ShloMosaic Idealize.ShloMosaic.TcCoe Idealize.SL.Sem
open Cert.ReferenceIdeal Cert.ReferenceIdeal.Gen
open Cert.KernelIdeal.Run (ptAt nibLo nibHi mAt vAt nOf scaleOf gScale codeOf codesOf scalesOf dirOf deltaAt wAt wCodeOf DELTA WSCALE WCODE PTof RTof gradAt colOf)

variable (V0 : Valuation τ sig (Elt Ideal))

/-! ## The closed forms over the reference's arguments -/

/-- The decoded projection of the reference's arguments. -/
abbrev pv : FVec Ideal Cert.KernelIdeal.S5632x256 .bf16 := PTof (V0 (Proc.devRef .tc main_arg2)) (V0 (Proc.devRef .tc main_arg3))
/-- The projected gradient of the reference's arguments. -/
abbrev rv : FVec Ideal Cert.KernelIdeal.S2048x256 .f32 := RTof (V0 (Proc.devRef .tc main_arg0)) (V0 (Proc.devRef .tc main_arg1)) (pv V0)
/-- The new first moment of the reference's arguments. -/
abbrev mv : Fin 256 → Fin 2048 → EReal := mAt (rv V0) (V0 (Proc.devRef .tc main_arg4)) (V0 (Proc.devRef .tc main_arg5))
/-- The new second moment of the reference's arguments. -/
abbrev vv : Fin 256 → Fin 2048 → EReal := vAt (rv V0) (V0 (Proc.devRef .tc main_arg6)) (V0 (Proc.devRef .tc main_arg7))

/-! ## The decoded projection and the projected gradient -/

/-- The low halves decode to the even rows of the projection. -/
theorem v20_at (r : Fin 256) (j : Fin 2816) : (show FVec Ideal S256x2816 .bf16 from res_main_v20 V0) (ix2 r j) = pv V0 (ix2 ⟨2 * j.val, by omega⟩ r) := by
  unfold pv PTof ptAt
  rw [if_pos (by show 2 * j.val % 2 = 0; omega)]
  clean_types
  pointwise [res_main_v20, res_main_v9, res_main_v10, res_main_v12, nibLo]
  blk_point []

/-- The high halves decode to the odd rows of the projection. -/
theorem v30_at (r : Fin 256) (j : Fin 2816) : (show FVec Ideal S256x2816 .bf16 from res_main_v30 V0) (ix2 r j) = pv V0 (ix2 ⟨2 * j.val + 1, by omega⟩ r) := by
  unfold pv PTof ptAt
  rw [if_neg (by show ¬ (2 * j.val + 1) % 2 = 0; omega)]
  clean_types
  pointwise [res_main_v30, res_main_v9, res_main_v10, res_main_v22, nibHi, Cert.Scalars.shrsi_host]
  blk_point []

/-- The weight gradient, its output features paired. -/
theorem v2_at (j : Fin 2816) (p : Fin 2) (d : Fin 2048) : (show FVec Ideal S2816x2x2048 .bf16 from res_main_v2 V0) (ix3 j p d)
    = gradAt (V0 (Proc.devRef .tc main_arg0)) (V0 (Proc.devRef .tc main_arg1)) ⟨j.val * 2 + p.val, by omega⟩ d := by
  unfold gradAt
  pointwise [res_main_v2]
  exact Fin.sum_fin_congr fun b => Fin.sum_fin_congr fun s => mul_comm _ _

/-- The projected gradient: the two sums over the halves are one sum over all output features. -/
theorem v33_at (r : Fin 256) (d : Fin 2048) : (show FVec Ideal S256x2048 .f32 from res_main_v33 V0) (ix2 r d) = rv V0 (ix2 d r) := by
  have h : (show FVec Ideal S256x2048 .f32 from res_main_v33 V0) (ix2 r d)
      = (∑ j : Fin 2816, (show FVec Ideal S256x2816 .bf16 from res_main_v20 V0) (ix2 r j) * (show FVec Ideal S2816x2x2048 .bf16 from res_main_v2 V0) (ix3 j 0 d))
        + ∑ j : Fin 2816, (show FVec Ideal S256x2816 .bf16 from res_main_v30 V0) (ix2 r j) * (show FVec Ideal S2816x2x2048 .bf16 from res_main_v2 V0) (ix3 j 1 d) := by
    pointwise [res_main_v33]
  rw [h, ← Finset.sum_add_distrib]
  unfold rv RTof
  rw [Fin.sum_univ_tiles 2816 2 rfl]
  refine Fin.sum_fin_congr fun j => ?_
  rw [Fin.sum_univ_two, v20_at, v30_at, v2_at, v2_at]
  refine Ideal.add_congr ((mul_comm _ _).trans (Ideal.mul_congr rfl ?_)) ((mul_comm _ _).trans (Ideal.mul_congr rfl ?_))
  · exact congrArg (fun o => pv V0 (ix2 o r)) (Fin.ext (by show 2 * j.val = j.val * 2 + 0; omega))
  · exact congrArg (fun o => pv V0 (ix2 o r)) (Fin.ext (by show 2 * j.val + 1 = j.val * 2 + 1; omega))

/-! ## The moments -/

/-- The new first moment. -/
theorem v48_at (r : Fin 256) (d : Fin 2048) : (show FVec Ideal S256x2048 .f32 from res_main_v48 V0) (ix2 r d) = mv V0 r d := by
  unfold mv mAt
  rw [← v33_at]
  clean_types
  pointwise [res_main_v48, Cert.Scalars.sitofp_extsi]

/-- The new second moment. -/
theorem v54_at (r : Fin 256) (d : Fin 2048) : (show FVec Ideal S256x2048 .f32 from res_main_v54 V0) (ix2 r d) = vv V0 r d := by
  unfold vv vAt
  rw [← v33_at]
  clean_types
  pointwise [res_main_v54, Cert.Scalars.sitofp_extsi]

end Cert.ReferenceIdeal.Value

end
-- ==== Proof.RI.Value2.lean ====
/- The reference's eight results in the closed forms the kernel's results are read in. -/
module

public import proofs.«01_k».proof.Proof.RI.Value
public import Idealize.ShloMosaic.Lib.Pointwise
public import Idealize.ShloMosaic.Lib.Tactic.CleanTypes
public import Idealize.ShloMosaic.Lib.Tactic.IndexArith

@[expose] public section

set_option maxRecDepth 16384

noncomputable section

namespace Cert.ReferenceIdeal.Value

open Idealize.ShloMosaic Idealize.ShloMosaic.TcCoe Idealize.SL.Sem
open Cert.ReferenceIdeal Cert.ReferenceIdeal.Gen
open Cert.KernelIdeal.Run (ptAt nibLo nibHi mAt vAt nOf scaleOf gScale codeOf codesOf scalesOf dirOf deltaAt wAt wCodeOf DELTA WSCALE WCODE PTof RTof gradAt colOf)

variable (V0 : Valuation τ sig (Elt Ideal))

/-- The new first moment, as an array. -/
theorem v48_eq : res_main_v48 V0 = fun i : S256x2048.Idx => mv V0 (i 0) (i 1) := by
  funext i
  exact (congrArg (res_main_v48 V0) (eq_ix2 i)).trans (v48_at V0 (i 0) (i 1))

/-- The new second moment, as an array. -/
theorem v54_eq : res_main_v54 V0 = fun i : S256x2048.Idx => vv V0 (i 0) (i 1) := by
  funext i
  exact (congrArg (res_main_v54 V0) (eq_ix2 i)).trans (v54_at V0 (i 0) (i 1))

/-! ## The direction and the moments' codes and scales -/

/-- Result 4: the normalised direction. -/
theorem r62 : (Host.divf (Host.divf (res_main_v48 V0) (broadcastInDim S256x2048 ![] bcast_S_S256x2048 (constant S_ .f32 0x3F26BD02#32))) (addf (Host.sqrt (Host.divf (res_main_v54 V0) (broadcastInDim S256x2048 ![] bcast_S_S256x2048 (constant S_ .f32 0x3C231ACC#32)))) (broadcastInDim S256x2048 ![] bcast_S_S256x2048 (constant S_ .f32 0x322BCC77#32))) : FVec Ideal S256x2048 .f32) = dirOf (mv V0) (vv V0) := by
  rw [v48_eq, v54_eq]
  funext i
  pointwise [dirOf, nOf]

/-- The scale of a group of values from its greatest magnitude. -/
theorem scaleOf_eq {n : ℕ} (f : Fin n → EReal) (M : EReal)
    (hM : M = Finset.fold max (Ideal.ofBits FTy.f32 0xFF800000#32) (fun l => FloatOps.absf (F := Ideal) (φ := .f32) (f l)) Finset.univ) :
    (if M = 0 then 1 else Ideal.div M (Ideal.ofBits FTy.f32 0x42FE0000#32)) = scaleOf f := by
  subst hM
  rfl

/-- The first moment in groups. -/
theorem v63_eq : res_main_v63 V0 = shapeCast S256x16x128 (show FVec Ideal S256x2048 .f32 from fun i => mv V0 (i 0) (i 1)) shapeCasts_S256x2048_S256x16x128 := by
  unfold res_main_v63
  rw [v48_eq]
  rfl

/-- The second moment in groups. -/
theorem v79_eq : res_main_v79 V0 = shapeCast S256x16x128 (show FVec Ideal S256x2048 .f32 from fun i => vv V0 (i 0) (i 1)) shapeCasts_S256x2048_S256x16x128 := by
  unfold res_main_v79
  rw [v54_eq]
  rfl

/-- A group's greatest magnitude, as the reference's reduction has it. -/
theorem grpMax_at (a : FVec Ideal S256x16x128 .f32) (f : Fin 256 → Fin 2048 → EReal)
    (ha : a = shapeCast S256x16x128 (show FVec Ideal S256x2048 .f32 from fun i => f (i 0) (i 1)) shapeCasts_S256x2048_S256x16x128) (r : Fin 256) (g : Fin 16) :
    Host.reduce FloatOps.maximumf (Host.absf a) (constant S_ .f32 0xFF800000#32) reducesTo_S256x16x128_S256x16_d2 h_S_ (ix2 r g)
      = Finset.fold max (Ideal.ofBits FTy.f32 0xFF800000#32) (fun l : Fin 128 => FloatOps.absf (F := Ideal) (φ := .f32) (f r ⟨g.val * 128 + l.val, by omega⟩)) Finset.univ := by
  subst ha
  pointwise

/-- The reference's lines for the scales of an array, in groups of 128 along its second axis. -/
theorem scales_eq (f : Fin 256 → Fin 2048 → EReal) (a : FVec Ideal S256x16x128 .f32) (b : FVec Ideal S256x16 .f32)
    (ha : a = shapeCast _ (show FVec Ideal S256x2048 .f32 from fun i => f (i 0) (i 1)) shapeCasts_S256x2048_S256x16x128)
    (hb : ∀ r g, b (ix2 r g) = Finset.fold max (Ideal.ofBits FTy.f32 0xFF800000#32) (fun l : Fin 128 => FloatOps.absf (F := Ideal) (φ := .f32) (f r ⟨g.val * 128 + l.val, by omega⟩)) Finset.univ) :
    (select (cmpf .oeq b (broadcastInDim S256x16 ![] bcast_S_S256x16 (constant S_ .f32 0x00000000#32))) (broadcastInDim S256x16 ![] bcast_S_S256x16 (id (constant S_ .f32 0x3F800000#32))) (Host.divf b (broadcastInDim S256x16 ![] bcast_S_S256x16 (constant S_ .f32 0x42FE0000#32))) : FVec Ideal S256x16 .f32) = scalesOf f := by
  subst ha
  funext i
  simp only [id_eq]
  pointwise [scalesOf, gScale]
  exact scaleOf_eq _ _ ((congrArg b (eq_ix2 i)).trans (hb (i 0) (i 1)))

/-- The reference's lines for the codes of an array, in groups of 128 along its second axis. -/
theorem codes_eq (f : Fin 256 → Fin 2048 → EReal) (a : FVec Ideal S256x16x128 .f32) (b : FVec Ideal S256x16 .f32)
    (ha : a = shapeCast _ (show FVec Ideal S256x2048 .f32 from fun i => f (i 0) (i 1)) shapeCasts_S256x2048_S256x16x128)
    (hb : ∀ r g, b (ix2 r g) = Finset.fold max (Ideal.ofBits FTy.f32 0xFF800000#32) (fun l : Fin 128 => FloatOps.absf (F := Ideal) (φ := .f32) (f r ⟨g.val * 128 + l.val, by omega⟩)) Finset.univ) :
    (shapeCast _ (trunci 8 (fptosi 32 (minimumf (broadcastInDim S256x16x128 ![] bcast_S_S256x16x128 (id (constant S_ .f32 0x42FE0000#32))) (maximumf (broadcastInDim S256x16x128 ![] bcast_S_S256x16x128 (id (constant S_ .f32 0xC2FE0000#32))) (Host.roundeven (Host.divf a (broadcastInDim S256x16x128 ![0, 1, 2] bcast_S256x16x1_S256x16x128_0_1_2 (broadcastInDim S256x16x1 ![0, 1] bcast_S256x16_S256x16x1_0_1 (select (cmpf .oeq b (broadcastInDim S256x16 ![] bcast_S_S256x16 (constant S_ .f32 0x00000000#32))) (broadcastInDim S256x16 ![] bcast_S_S256x16 (id (constant S_ .f32 0x3F800000#32))) (Host.divf b (broadcastInDim S256x16 ![] bcast_S_S256x16 (constant S_ .f32 0x42FE0000#32))))))))))) natLt_8_32) shapeCasts_S256x16x128_S256x2048 : IVec S256x2048 8) = codesOf f := by
  subst ha
  funext i
  simp only [id_eq]
  pointwise [codesOf]
  exact (Cert.Scalars.fptosi_clip _).trans (congrArg (codeOf _) (scaleOf_eq _ _ (hb (i 0) _)))

/-- Result 6: the first moment's scales. -/
theorem r70 : (select (cmpf .oeq (res_main_v65 V0) (broadcastInDim S256x16 ![] bcast_S_S256x16 (constant S_ .f32 0x00000000#32))) (broadcastInDim S256x16 ![] bcast_S_S256x16 (id (constant S_ .f32 0x3F800000#32))) (Host.divf (res_main_v65 V0) (broadcastInDim S256x16 ![] bcast_S_S256x16 (constant S_ .f32 0x42FE0000#32))) : FVec Ideal S256x16 .f32) = scalesOf (mv V0) :=
  scales_eq (mv V0) (res_main_v63 V0) (res_main_v65 V0) (v63_eq V0) (grpMax_at (res_main_v63 V0) (mv V0) (v63_eq V0))

/-- Result 5: the first moment's codes. -/
theorem r78 : (shapeCast _ (trunci 8 (fptosi 32 (minimumf (broadcastInDim S256x16x128 ![] bcast_S_S256x16x128 (id (constant S_ .f32 0x42FE0000#32))) (maximumf (broadcastInDim S256x16x128 ![] bcast_S_S256x16x128 (id (constant S_ .f32 0xC2FE0000#32))) (Host.roundeven (Host.divf (res_main_v63 V0) (broadcastInDim S256x16x128 ![0, 1, 2] bcast_S256x16x1_S256x16x128_0_1_2 (broadcastInDim S256x16x1 ![0, 1] bcast_S256x16_S256x16x1_0_1 (select (cmpf .oeq (res_main_v65 V0) (broadcastInDim S256x16 ![] bcast_S_S256x16 (constant S_ .f32 0x00000000#32))) (broadcastInDim S256x16 ![] bcast_S_S256x16 (id (constant S_ .f32 0x3F800000#32))) (Host.divf (res_main_v65 V0) (broadcastInDim S256x16 ![] bcast_S_S256x16 (constant S_ .f32 0x42FE0000#32))))))))))) natLt_8_32) shapeCasts_S256x16x128_S256x2048 : IVec S256x2048 8) = codesOf (mv V0) :=
  codes_eq (mv V0) (res_main_v63 V0) (res_main_v65 V0) (v63_eq V0) (grpMax_at (res_main_v63 V0) (mv V0) (v63_eq V0))

/-- Result 8: the second moment's scales. -/
theorem r86 : (select (cmpf .oeq (res_main_v81 V0) (broadcastInDim S256x16 ![] bcast_S_S256x16 (constant S_ .f32 0x00000000#32))) (broadcastInDim S256x16 ![] bcast_S_S256x16 (id (constant S_ .f32 0x3F800000#32))) (Host.divf (res_main_v81 V0) (broadcastInDim S256x16 ![] bcast_S_S256x16 (constant S_ .f32 0x42FE0000#32))) : FVec Ideal S256x16 .f32) = scalesOf (vv V0) :=
  scales_eq (vv V0) (res_main_v79 V0) (res_main_v81 V0) (v79_eq V0) (grpMax_at (res_main_v79 V0) (vv V0) (v79_eq V0))

/-- Result 7: the second moment's codes. -/
theorem r94 : (shapeCast _ (trunci 8 (fptosi 32 (minimumf (broadcastInDim S256x16x128 ![] bcast_S_S256x16x128 (id (constant S_ .f32 0x42FE0000#32))) (maximumf (broadcastInDim S256x16x128 ![] bcast_S_S256x16x128 (id (constant S_ .f32 0xC2FE0000#32))) (Host.roundeven (Host.divf (res_main_v79 V0) (broadcastInDim S256x16x128 ![0, 1, 2] bcast_S256x16x1_S256x16x128_0_1_2 (broadcastInDim S256x16x1 ![0, 1] bcast_S256x16_S256x16x1_0_1 (select (cmpf .oeq (res_main_v81 V0) (broadcastInDim S256x16 ![] bcast_S_S256x16 (constant S_ .f32 0x00000000#32))) (broadcastInDim S256x16 ![] bcast_S_S256x16 (id (constant S_ .f32 0x3F800000#32))) (Host.divf (res_main_v81 V0) (broadcastInDim S256x16 ![] bcast_S_S256x16 (constant S_ .f32 0x42FE0000#32))))))))))) natLt_8_32) shapeCasts_S256x16x128_S256x2048 : IVec S256x2048 8) = codesOf (vv V0) :=
  codes_eq (vv V0) (res_main_v79 V0) (res_main_v81 V0) (v79_eq V0) (grpMax_at (res_main_v79 V0) (vv V0) (v79_eq V0))

/-! ## The step and the weights -/

/-- The direction the projection back reads. -/
theorem v95_eq : (show FVec Ideal S256x2048 .bf16 from res_main_v95 V0) = dirOf (mv V0) (vv V0) := r62 V0

/-- The reference's lines for the step, from the two halves of the decoded projection: the even rows come from the first
    half's product, the odd rows from the second half's. -/
theorem step_eq (P : FVec Ideal Cert.KernelIdeal.S5632x256 .bf16) (A B : FVec Ideal S256x2816 .bf16) (N : FVec Ideal S256x2048 .bf16)
    (hA : ∀ (r : Fin 256) (j : Fin 2816), A (ix2 r j) = P (ix2 ⟨2 * j.val, by omega⟩ r))
    (hB : ∀ (r : Fin 256) (j : Fin 2816), B (ix2 r j) = P (ix2 ⟨2 * j.val + 1, by omega⟩ r)) :
    (mulf (broadcastInDim S5632x2048 ![] bcast_S_S5632x2048 (constant S_ .f32 0x3A83126F#32)) (shapeCast _ (concatenate S2816x2x2048 1 [⟨S2816x1x2048, (broadcastInDim S2816x1x2048 ![0, 2] bcast_S2816x2048_S2816x1x2048_0_2 (Host.dotGeneral (φ₁ := .bf16) (φ₂ := .bf16) dot_S256x2816_S256x2048_S2816x2048_0_0_1_1_n_n none A N))⟩, ⟨S2816x1x2048, (broadcastInDim S2816x1x2048 ![0, 2] bcast_S2816x2048_S2816x1x2048_0_2 (Host.dotGeneral (φ₁ := .bf16) (φ₂ := .bf16) dot_S256x2816_S256x2048_S2816x2048_0_0_1_1_n_n none B N))⟩] concatenates_S2816x1x2048_S2816x1x2048_S2816x2x2048_d1) shapeCasts_S2816x2x2048_S5632x2048) : FVec Ideal S5632x2048 .f32) = DELTA P N := by
  funext i
  have h0 : (i 0 : ℕ) < 5632 := (i 0).isLt
  pointwise [DELTA, deltaAt]
  refine Ideal.mul_congr rfl ?_
  by_cases h : (i 0 : ℕ) % 2 < 1
  · rw [dif_pos h]
    exact Fin.sum_fin_congr fun r => Ideal.mul_congr
      ((hA r _).trans (congrArg (fun o => P (ix2 o r)) (Fin.ext (by show 2 * ((i 0 : ℕ) / 2) = (i 0 : ℕ); omega)))) rfl
  · rw [dif_neg h]
    exact Fin.sum_fin_congr fun r => Ideal.mul_congr
      ((hB r _).trans (congrArg (fun o => P (ix2 o r)) (Fin.ext (by show 2 * ((i 0 : ℕ) / 2) + 1 = (i 0 : ℕ); omega)))) rfl

/-- Result 3: the step. -/
theorem r103 : (mulf (broadcastInDim S5632x2048 ![] bcast_S_S5632x2048 (constant S_ .f32 0x3A83126F#32)) (shapeCast _ (concatenate S2816x2x2048 1 [⟨S2816x1x2048, (broadcastInDim S2816x1x2048 ![0, 2] bcast_S2816x2048_S2816x1x2048_0_2 (Host.dotGeneral (φ₁ := .bf16) (φ₂ := .bf16) dot_S256x2816_S256x2048_S2816x2048_0_0_1_1_n_n none (res_main_v20 V0) (res_main_v95 V0)))⟩, ⟨S2816x1x2048, (broadcastInDim S2816x1x2048 ![0, 2] bcast_S2816x2048_S2816x1x2048_0_2 (Host.dotGeneral (φ₁ := .bf16) (φ₂ := .bf16) dot_S256x2816_S256x2048_S2816x2048_0_0_1_1_n_n none (res_main_v30 V0) (res_main_v95 V0)))⟩] concatenates_S2816x1x2048_S2816x1x2048_S2816x2x2048_d1) shapeCasts_S2816x2x2048_S5632x2048) : FVec Ideal S5632x2048 .f32) = DELTA (pv V0) (dirOf (mv V0) (vv V0)) := by
  rw [← v95_eq]
  exact step_eq (pv V0) (res_main_v20 V0) (res_main_v30 V0) (res_main_v95 V0) (v20_at V0) (v30_at V0)

/-- The new weights of the reference's arguments. -/
abbrev wv : Fin 5632 → Fin 2048 → EReal :=
  wAt (pv V0) (dirOf (mv V0) (vv V0)) (V0 (Proc.devRef .tc main_arg8)) (colOf (V0 (Proc.devRef .tc main_arg9)))

/-- The reference's line for the new weights, from the step. -/
theorem weight_eq (P : FVec Ideal Cert.KernelIdeal.S5632x256 .bf16) (N : FVec Ideal S256x2048 .f32) (C : IVec S5632x2048 8) (S : FVec Ideal S5632 .f32)
    (D : FVec Ideal S5632x2048 .f32) (hD : D = DELTA P N) :
    (subf (mulf (sitofp .f32 (extsi 32 C natLt_8_32)) (broadcastInDim S5632x2048 ![0, 1] bcast_S5632x1_S5632x2048_0_1 (broadcastInDim S5632x1 ![0] bcast_S5632_S5632x1_0 S))) D : FVec Ideal S5632x2048 .f32) = fun i => wAt P N C (colOf S) (i 0) (i 1) := by
  subst hD
  funext i
  clean_types
  pointwise [wAt, DELTA, colOf, Cert.Scalars.sitofp_extsi]

/-- The new weights, as an array. -/
theorem v109_eq : res_main_v109 V0 = fun i : S5632x2048.Idx => wv V0 (i 0) (i 1) :=
  weight_eq (pv V0) (dirOf (mv V0) (vv V0)) (V0 (Proc.devRef .tc main_arg8)) (V0 (Proc.devRef .tc main_arg9)) _ (r103 V0)

/-- A row's greatest magnitude, as the reference's reduction has it. -/
theorem rowMax_at (a : FVec Ideal S5632x2048 .f32) (f : Fin 5632 → Fin 2048 → EReal) (ha : a = fun i => f (i 0) (i 1)) (o : Fin 5632) :
    Host.reduce FloatOps.maximumf (Host.absf a) (constant S_ .f32 0xFF800000#32) reducesTo_S5632x2048_S5632_d1 h_S_ (ix1 o)
      = Finset.fold max (Ideal.ofBits FTy.f32 0xFF800000#32) (fun l => FloatOps.absf (F := Ideal) (φ := .f32) (f o l)) Finset.univ := by
  subst ha
  pointwise

/-- The reference's lines for the scales of an array's rows. -/
theorem wscales_eq (f : Fin 5632 → Fin 2048 → EReal) (a : FVec Ideal S5632x2048 .f32) (b : FVec Ideal S5632 .f32) (ha : a = fun i => f (i 0) (i 1))
    (hb : ∀ o, b (ix1 o) = Finset.fold max (Ideal.ofBits FTy.f32 0xFF800000#32) (fun l => FloatOps.absf (F := Ideal) (φ := .f32) (f o l)) Finset.univ) :
    (select (cmpf .oeq b (broadcastInDim S5632 ![] bcast_S_S5632 (constant S_ .f32 0x00000000#32))) (broadcastInDim S5632 ![] bcast_S_S5632 (id (constant S_ .f32 0x3F800000#32))) (Host.divf b (broadcastInDim S5632 ![] bcast_S_S5632 (constant S_ .f32 0x42FE0000#32))) : FVec Ideal S5632 .f32) = fun i => scaleOf (f (i 0)) := by
  subst ha
  funext i
  simp only [id_eq]
  pointwise
  exact scaleOf_eq _ _ ((congrArg b (eq_ix1 i)).trans (hb (i 0)))

/-- The reference's lines for the codes of an array's rows. -/
theorem wcodes_eq (f : Fin 5632 → Fin 2048 → EReal) (B : IVec S5632x2048 8) (a : FVec Ideal S5632x2048 .f32) (b : FVec Ideal S5632 .f32) (ha : a = fun i => f (i 0) (i 1))
    (hb : ∀ o, b (ix1 o) = Finset.fold max (Ideal.ofBits FTy.f32 0xFF800000#32) (fun l => FloatOps.absf (F := Ideal) (φ := .f32) (f o l)) Finset.univ) :
    (trunci 8 (fptosi 32 (minimumf (broadcastInDim S5632x2048 ![] bcast_S_S5632x2048 (id (constant S_ .f32 0x42FE0000#32))) (maximumf (broadcastInDim S5632x2048 ![] bcast_S_S5632x2048 (id (constant S_ .f32 0xC2FE0000#32))) (Host.floor (addf (Host.divf a (broadcastInDim S5632x2048 ![0, 1] bcast_S5632x1_S5632x2048_0_1 (broadcastInDim S5632x1 ![0] bcast_S5632_S5632x1_0 (select (cmpf .oeq b (broadcastInDim S5632 ![] bcast_S_S5632 (constant S_ .f32 0x00000000#32))) (broadcastInDim S5632 ![] bcast_S_S5632 (id (constant S_ .f32 0x3F800000#32))) (Host.divf b (broadcastInDim S5632 ![] bcast_S_S5632 (constant S_ .f32 0x42FE0000#32))))))) (mulf (sitofp .f32 (extui 32 B natLt_8_32)) (broadcastInDim S5632x2048 ![] bcast_S_S5632x2048 (constant S_ .f32 0x3B800000#32)))))))) natLt_8_32 : IVec S5632x2048 8) = fun i => wCodeOf (f (i 0) (i 1)) (scaleOf (f (i 0))) (B i) := by
  subst ha
  funext i
  simp only [id_eq]
  pointwise
  exact (Cert.Scalars.fptosi_clip _).trans (congrArg (fun s => wCodeOf _ s _) (scaleOf_eq _ _ (hb (i 0))))

/-- Result 2: the new weights' scales. -/
theorem r116 : (select (cmpf .oeq (res_main_v111 V0) (broadcastInDim S5632 ![] bcast_S_S5632 (constant S_ .f32 0x00000000#32))) (broadcastInDim S5632 ![] bcast_S_S5632 (id (constant S_ .f32 0x3F800000#32))) (Host.divf (res_main_v111 V0) (broadcastInDim S5632 ![] bcast_S_S5632 (constant S_ .f32 0x42FE0000#32))) : FVec Ideal S5632 .f32) = fun i => WSCALE (pv V0) (dirOf (mv V0) (vv V0)) (V0 (Proc.devRef .tc main_arg8)) (colOf (V0 (Proc.devRef .tc main_arg9))) (ix2 (i 0) 0) :=
  wscales_eq (wv V0) (res_main_v109 V0) (res_main_v111 V0) (v109_eq V0) (rowMax_at (res_main_v109 V0) (wv V0) (v109_eq V0))

/-- Result 1: the new weights' codes. -/
theorem r128 : (trunci 8 (fptosi 32 (minimumf (broadcastInDim S5632x2048 ![] bcast_S_S5632x2048 (id (constant S_ .f32 0x42FE0000#32))) (maximumf (broadcastInDim S5632x2048 ![] bcast_S_S5632x2048 (id (constant S_ .f32 0xC2FE0000#32))) (Host.floor (addf (Host.divf (res_main_v109 V0) (broadcastInDim S5632x2048 ![0, 1] bcast_S5632x1_S5632x2048_0_1 (broadcastInDim S5632x1 ![0] bcast_S5632_S5632x1_0 (select (cmpf .oeq (res_main_v111 V0) (broadcastInDim S5632 ![] bcast_S_S5632 (constant S_ .f32 0x00000000#32))) (broadcastInDim S5632 ![] bcast_S_S5632 (id (constant S_ .f32 0x3F800000#32))) (Host.divf (res_main_v111 V0) (broadcastInDim S5632 ![] bcast_S_S5632 (constant S_ .f32 0x42FE0000#32))))))) (mulf (sitofp .f32 (extui 32 (V0 (Proc.devRef .tc main_arg10)) natLt_8_32)) (broadcastInDim S5632x2048 ![] bcast_S_S5632x2048 (constant S_ .f32 0x3B800000#32)))))))) natLt_8_32 : IVec S5632x2048 8) = WCODE (pv V0) (dirOf (mv V0) (vv V0)) (V0 (Proc.devRef .tc main_arg8)) (colOf (V0 (Proc.devRef .tc main_arg9))) (V0 (Proc.devRef .tc main_arg10)) :=
  wcodes_eq (wv V0) (V0 (Proc.devRef .tc main_arg10)) (res_main_v109 V0) (res_main_v111 V0) (v109_eq V0) (rowMax_at (res_main_v109 V0) (wv V0) (v109_eq V0))

end Cert.ReferenceIdeal.Value

end
-- ==== Proof.Algebraic.lean ====
/- The value claim: from the same arguments the kernel and the reference end with the same eight results. -/
module

public import proofs.«01_k».proof.Defs
public import proofs.«01_k».proof.Proof.KI.Frame
public import proofs.«01_k».proof.Proof.KI.Values
public import proofs.«01_k».proof.Proof.RI.Value2

@[expose] public section

set_option maxRecDepth 16384

noncomputable section

namespace Cert.Algebraic

open Idealize.ShloMosaic Idealize.ShloMosaic.TcCoe Idealize.ShloMosaic.StableHlo Idealize.SL.Sem

/-- The kernel's eight results equal the reference's, at the extended reals. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => Cert.KernelIdeal.Run.W7 m g c Cert.KernelIdeal.main_v8_0, fun c => Cert.KernelIdeal.Run.W7 m g c Cert.KernelIdeal.main_v9,
    fun c => Cert.KernelIdeal.Run.W7 m g c Cert.KernelIdeal.main_v8_2, fun c => Cert.KernelIdeal.Run.W7 m g c Cert.KernelIdeal.main_v6_0,
    fun c => Cert.KernelIdeal.Run.W7 m g c Cert.KernelIdeal.main_v6_1, fun c => Cert.KernelIdeal.Run.W7 m g c Cert.KernelIdeal.main_v6_2,
    fun c => Cert.KernelIdeal.Run.W7 m g c Cert.KernelIdeal.main_v6_3, fun c => Cert.KernelIdeal.Run.W7 m g c Cert.KernelIdeal.main_v6_4, ?_, ?_⟩
  · refine (θ_run _ _ _).mono (fun r h c => ?_) (Cert.KernelIdeal.Run.run_main m g)
    exact ⟨(h.1 c _ (Cert.KernelIdeal.Run.mem_uc Cert.KernelIdeal.main_v8_0 (by decide))),
      (h.1 c _ (Cert.KernelIdeal.Run.mem_uc Cert.KernelIdeal.main_v9 (by decide))),
      (h.1 c _ (Cert.KernelIdeal.Run.mem_uc Cert.KernelIdeal.main_v8_2 (by decide))),
      (h.1 c _ (Cert.KernelIdeal.Run.mem_uc Cert.KernelIdeal.main_v6_0 (by decide))),
      (h.1 c _ (Cert.KernelIdeal.Run.mem_uc Cert.KernelIdeal.main_v6_1 (by decide))),
      (h.1 c _ (Cert.KernelIdeal.Run.mem_uc Cert.KernelIdeal.main_v6_2 (by decide))),
      (h.1 c _ (Cert.KernelIdeal.Run.mem_uc Cert.KernelIdeal.main_v6_3 (by decide))),
      (h.1 c _ (Cert.KernelIdeal.Run.mem_uc Cert.KernelIdeal.main_v6_4 (by decide))),
      (h.1 c _ (Cert.KernelIdeal.Run.mem_uc Cert.KernelIdeal.main_arg0 (by decide))).trans (Cert.KernelIdeal.Run.W7_main_arg0 m g c),
      (h.1 c _ (Cert.KernelIdeal.Run.mem_uc Cert.KernelIdeal.main_arg1 (by decide))).trans (Cert.KernelIdeal.Run.W7_main_arg1 m g c),
      (h.1 c _ (Cert.KernelIdeal.Run.mem_uc Cert.KernelIdeal.main_arg2 (by decide))).trans (Cert.KernelIdeal.Run.W7_main_arg2 m g c),
      (h.1 c _ (Cert.KernelIdeal.Run.mem_uc Cert.KernelIdeal.main_arg3 (by decide))).trans (Cert.KernelIdeal.Run.W7_main_arg3 m g c),
      (h.1 c _ (Cert.KernelIdeal.Run.mem_uc Cert.KernelIdeal.main_arg4 (by decide))).trans (Cert.KernelIdeal.Run.W7_main_arg4 m g c),
      (h.1 c _ (Cert.KernelIdeal.Run.mem_uc Cert.KernelIdeal.main_arg5 (by decide))).trans (Cert.KernelIdeal.Run.W7_main_arg5 m g c),
      (h.1 c _ (Cert.KernelIdeal.Run.mem_uc Cert.KernelIdeal.main_arg6 (by decide))).trans (Cert.KernelIdeal.Run.W7_main_arg6 m g c),
      (h.1 c _ (Cert.KernelIdeal.Run.mem_uc Cert.KernelIdeal.main_arg7 (by decide))).trans (Cert.KernelIdeal.Run.W7_main_arg7 m g c),
      (h.1 c _ (Cert.KernelIdeal.Run.mem_uc Cert.KernelIdeal.main_arg8 (by decide))).trans (Cert.KernelIdeal.Run.W7_main_arg8 m g c),
      (h.1 c _ (Cert.KernelIdeal.Run.mem_uc Cert.KernelIdeal.main_arg9 (by decide))).trans (Cert.KernelIdeal.Run.W7_main_arg9 m g c),
      (h.1 c _ (Cert.KernelIdeal.Run.mem_uc Cert.KernelIdeal.main_arg10 (by decide))).trans (Cert.KernelIdeal.Run.W7_main_arg10 m g c)⟩
  · refine (θ_run _ _ _).mono (fun r h c => ?_) (Cert.ReferenceIdeal.Value.run m' g')
    obtain ⟨e1, e2, e3, e4, e5, e6, e7, e8, ea⟩ := h c
    obtain ⟨a0, a1, a2, a3, a4, a5, a6, a7, a8, a9, a10⟩ := hagree c
    have hp : Cert.ReferenceIdeal.Value.pv (launchContents m' c) = Cert.KernelIdeal.Run.ptv m c := by
      show Cert.KernelIdeal.Run.PTof (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
      rw [a2, a3]
    have hr : Cert.ReferenceIdeal.Value.rv (launchContents m' c) = Cert.KernelIdeal.Run.rtv m c := by
      show Cert.KernelIdeal.Run.RTof (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (Cert.ReferenceIdeal.Value.pv (launchContents m' c)) = _
      rw [a0, a1, hp]
    have hm : Cert.ReferenceIdeal.Value.mv (launchContents m' c) = Cert.KernelIdeal.Run.mv m c := by
      show Cert.KernelIdeal.Run.mAt (Cert.ReferenceIdeal.Value.rv (launchContents m' c)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = _
      rw [a4, a5, hr]
    have hv : Cert.ReferenceIdeal.Value.vv (launchContents m' c) = Cert.KernelIdeal.Run.vv m c := by
      show Cert.KernelIdeal.Run.vAt (Cert.ReferenceIdeal.Value.rv (launchContents m' c)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) = _
      rw [a6, a7, hr]
    have h8 : launchContents m' c (Proc.devRef .tc Cert.ReferenceIdeal.main_arg8) = m ((c.tc : Thread Cert.KernelIdeal.nD Cert.KernelIdeal.τ).loc Cert.KernelIdeal.main_arg8) := a8
    have h9 : launchContents m' c (Proc.devRef .tc Cert.ReferenceIdeal.main_arg9) = m ((c.tc : Thread Cert.KernelIdeal.nD Cert.KernelIdeal.τ).loc Cert.KernelIdeal.main_arg9) := a9
    have h10 : launchContents m' c (Proc.devRef .tc Cert.ReferenceIdeal.main_arg10) = m ((c.tc : Thread Cert.KernelIdeal.nD Cert.KernelIdeal.τ).loc Cert.KernelIdeal.main_arg10) := a10
    refine ⟨e1.trans ?_, e2.trans ?_, e3.trans ?_, e4.trans ?_, e5.trans ?_, e6.trans ?_, e7.trans ?_, e8.trans ?_, ea⟩
    · refine (Cert.ReferenceIdeal.Value.r128 (launchContents m' c)).trans (Eq.trans ?_ (Cert.KernelIdeal.Run.res1 m g c).symm)
      rw [hp, hm, hv, h8, h9, h10]
    · refine (Cert.ReferenceIdeal.Value.r116 (launchContents m' c)).trans (Eq.trans ?_ (Cert.KernelIdeal.Run.res2 m g c).symm)
      rw [hp, hm, hv, h8, h9]
    · refine (Cert.ReferenceIdeal.Value.r103 (launchContents m' c)).trans (Eq.trans ?_ (Cert.KernelIdeal.Run.res3 m g c).symm)
      rw [hp, hm, hv]
    · refine (Cert.ReferenceIdeal.Value.r62 (launchContents m' c)).trans (Eq.trans ?_ (Cert.KernelIdeal.Run.res4 m g c).symm)
      rw [hm, hv]
    · refine (Cert.ReferenceIdeal.Value.r78 (launchContents m' c)).trans (Eq.trans ?_ (Cert.KernelIdeal.Run.res5 m g c).symm)
      rw [hm]
    · refine (Cert.ReferenceIdeal.Value.r70 (launchContents m' c)).trans (Eq.trans ?_ (Cert.KernelIdeal.Run.res6 m g c).symm)
      rw [hm]
    · refine (Cert.ReferenceIdeal.Value.r94 (launchContents m' c)).trans (Eq.trans ?_ (Cert.KernelIdeal.Run.res7 m g c).symm)
      rw [hv]
    · refine (Cert.ReferenceIdeal.Value.r86 (launchContents m' c)).trans (Eq.trans ?_ (Cert.KernelIdeal.Run.res8 m g c).symm)
      rw [hv]

end Cert.Algebraic

end
-- ==== Proof.lean ====
module

public import proofs.«01_k».proof.Defs
public import proofs.«01_k».proof.Proof.K.Frame
public import proofs.«01_k».proof.Proof.KI.Frame
public import proofs.«01_k».proof.Proof.RI.Frame
public import proofs.«01_k».proof.Proof.Algebraic
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import Idealize.ShloMosaic.Adequacy
public import Idealize.ShloMosaic.Init
public import Idealize.ShloMosaic.Lib.Bf16Pair

@[expose] public section

noncomputable section

namespace Cert.Proof

open Idealize.ShloMosaic Idealize.SL.Sem Cert.Kernel

/-- The claim: the three frames, the idealization's ledger, and the equality of the results. -/
theorem claim : Cert.Claim :=
  ⟨Cert.Kernel.Gen.facts, Cert.KernelIdeal.Gen.facts, Cert.ReferenceIdeal.Gen.facts,
    fun m g _ => Cert.Kernel.Run.frame m g,
    fun m g _ => Cert.KernelIdeal.Run.frame m g,
    fun m g _ => Cert.ReferenceIdeal.Value.frame m g,
    ⟨IdealRules.bf16_pair.statement Cert.KernelIdeal.S256x256 Cert.KernelIdeal.S128x256,
      IdealRules.bf16_pack.statement Cert.KernelIdeal.S128x256⟩,
    Cert.Algebraic.algebraic⟩

end Cert.Proof

end
